-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x768x30x96 : Shape := ⟨4, ![2, 768, 30, 96]⟩
abbrev S2x768x30 : Shape := ⟨3, ![2, 768, 30]⟩
abbrev S2x768x6x96 : Shape := ⟨4, ![2, 768, 6, 96]⟩
abbrev S2x768x6 : Shape := ⟨3, ![2, 768, 6]⟩
abbrev S2x30x112 : Shape := ⟨3, ![2, 30, 112]⟩
abbrev S2x30x320 : Shape := ⟨3, ![2, 30, 320]⟩
abbrev S2x30x768x96 : Shape := ⟨4, ![2, 30, 768, 96]⟩
abbrev S2x30x768 : Shape := ⟨3, ![2, 30, 768]⟩
abbrev S2x6x768x96 : Shape := ⟨4, ![2, 6, 768, 96]⟩
abbrev S2x768x2880 : Shape := ⟨3, ![2, 768, 2880]⟩
abbrev S1x30x256x96 : Shape := ⟨4, ![1, 30, 256, 96]⟩
abbrev S1x30x256 : Shape := ⟨3, ![1, 30, 256]⟩
abbrev S1x6x768x96 : Shape := ⟨4, ![1, 6, 768, 96]⟩
abbrev S1x768x6 : Shape := ⟨3, ![1, 768, 6]⟩
abbrev S1x30x112 : Shape := ⟨3, ![1, 30, 112]⟩
abbrev S1x30x320 : Shape := ⟨3, ![1, 30, 320]⟩
abbrev S1x256x2880 : Shape := ⟨3, ![1, 256, 2880]⟩
abbrev S6x128x128 : Shape := ⟨3, ![6, 128, 128]⟩
abbrev S768x256 : Shape := ⟨2, ![768, 256]⟩
abbrev S6x768x128 : Shape := ⟨3, ![6, 768, 128]⟩
abbrev S6x96x768 : Shape := ⟨3, ![6, 96, 768]⟩
abbrev S2880x256 : Shape := ⟨2, ![2880, 256]⟩
abbrev S128x320 : Shape := ⟨2, ![128, 320]⟩
abbrev S8x320 : Shape := ⟨2, ![8, 320]⟩
abbrev S8x128 : Shape := ⟨2, ![8, 128]⟩
abbrev S1x1x320 : Shape := ⟨3, ![1, 1, 320]⟩
abbrev S1x320 : Shape := ⟨2, ![1, 320]⟩
abbrev S128x112 : Shape := ⟨2, ![128, 112]⟩
abbrev S8x112 : Shape := ⟨2, ![8, 112]⟩
abbrev S1x1x112 : Shape := ⟨3, ![1, 1, 112]⟩
abbrev S1x112 : Shape := ⟨2, ![1, 112]⟩
abbrev S128x128 : Shape := ⟨2, ![128, 128]⟩
abbrev S1x128 : Shape := ⟨2, ![1, 128]⟩
abbrev S1x128x128 : Shape := ⟨3, ![1, 128, 128]⟩
abbrev S1x768x1 : Shape := ⟨3, ![1, 768, 1]⟩
abbrev S768x1 : Shape := ⟨2, ![768, 1]⟩
abbrev S768x128 : Shape := ⟨2, ![768, 128]⟩
abbrev S1x768x128 : Shape := ⟨3, ![1, 768, 128]⟩
abbrev S1x1x768x96 : Shape := ⟨4, ![1, 1, 768, 96]⟩
abbrev S768x96 : Shape := ⟨2, ![768, 96]⟩
abbrev S96x768 : Shape := ⟨2, ![96, 768]⟩
abbrev S1x96x768 : Shape := ⟨3, ![1, 96, 768]⟩
abbrev S1x1x256x96 : Shape := ⟨4, ![1, 1, 256, 96]⟩
abbrev S256x96 : Shape := ⟨2, ![256, 96]⟩
abbrev S256x256 : Shape := ⟨2, ![256, 256]⟩
abbrev S1x256x128 : Shape := ⟨3, ![1, 256, 128]⟩
abbrev S256x128 : Shape := ⟨2, ![256, 128]⟩
abbrev S1x1x256 : Shape := ⟨3, ![1, 1, 256]⟩
abbrev S1x256 : Shape := ⟨2, ![1, 256]⟩
abbrev S256 : Shape := ⟨1, ![256]⟩
abbrev S1x96x256 : Shape := ⟨3, ![1, 96, 256]⟩
abbrev S96x256 : Shape := ⟨2, ![96, 256]⟩
abbrev S1x1x512x96 : Shape := ⟨4, ![1, 1, 512, 96]⟩
abbrev S512x96 : Shape := ⟨2, ![512, 96]⟩
abbrev S512x256 : Shape := ⟨2, ![512, 256]⟩
abbrev S1x512x128 : Shape := ⟨3, ![1, 512, 128]⟩
abbrev S512x128 : Shape := ⟨2, ![512, 128]⟩
abbrev S1x96x512 : Shape := ⟨3, ![1, 96, 512]⟩
abbrev S96x512 : Shape := ⟨2, ![96, 512]⟩
abbrev S128x256 : Shape := ⟨2, ![128, 256]⟩
abbrev S64x256 : Shape := ⟨2, ![64, 256]⟩
abbrev S256x64 : Shape := ⟨2, ![256, 64]⟩
abbrev S1x256x64 : Shape := ⟨3, ![1, 256, 64]⟩

abbrev nBuf : Space → Nat
  | .hbm => 13
  | .vmem => 25
  | .smem => 0
  | _ => 0

abbrev bufTy : (tb : Table) → Fin (tcTables nBuf tb) → BufTy
  | .hbm, ⟨0, _⟩ => ⟨S2x768x30x96, .fp8e4m3⟩
  | .hbm, ⟨1, _⟩ => ⟨S2x768x30, .f32⟩
  | .hbm, ⟨2, _⟩ => ⟨S2x768x6x96, .fp8e4m3⟩
  | .hbm, ⟨3, _⟩ => ⟨S2x768x6, .f32⟩
  | .hbm, ⟨4, _⟩ => ⟨S2x768x6x96, .fp8e4m3⟩
  | .hbm, ⟨5, _⟩ => ⟨S2x768x6, .f32⟩
  | .hbm, ⟨6, _⟩ => ⟨S2x30x112, .i32⟩
  | .hbm, ⟨7, _⟩ => ⟨S2x30x320, .i32⟩
  | .hbm, ⟨8, _⟩ => ⟨S2x30x768x96, .fp8e4m3⟩
  | .hbm, ⟨9, _⟩ => ⟨S2x30x768, .f32⟩
  | .hbm, ⟨10, _⟩ => ⟨S2x6x768x96, .fp8e4m3⟩
  | .hbm, ⟨11, _⟩ => ⟨S2x6x768x96, .fp8e4m3⟩
  | .hbm, ⟨12, _⟩ => ⟨S2x768x2880, .bf16⟩
  | .local _ .vmem, ⟨0, _⟩ => ⟨S1x30x256x96, .fp8e4m3⟩
  | .local _ .vmem, ⟨1, _⟩ => ⟨S1x30x256x96, .fp8e4m3⟩
  | .local _ .vmem, ⟨2, _⟩ => ⟨S1x30x256, .f32⟩
  | .local _ .vmem, ⟨3, _⟩ => ⟨S1x30x256, .f32⟩
  | .local _ .vmem, ⟨4, _⟩ => ⟨S1x6x768x96, .fp8e4m3⟩
  | .local _ .vmem, ⟨5, _⟩ => ⟨S1x6x768x96, .fp8e4m3⟩
  | .local _ .vmem, ⟨6, _⟩ => ⟨S1x768x6, .f32⟩
  | .local _ .vmem, ⟨7, _⟩ => ⟨S1x768x6, .f32⟩
  | .local _ .vmem, ⟨8, _⟩ => ⟨S1x6x768x96, .fp8e4m3⟩
  | .local _ .vmem, ⟨9, _⟩ => ⟨S1x6x768x96, .fp8e4m3⟩
  | .local _ .vmem, ⟨10, _⟩ => ⟨S1x768x6, .f32⟩
  | .local _ .vmem, ⟨11, _⟩ => ⟨S1x768x6, .f32⟩
  | .local _ .vmem, ⟨12, _⟩ => ⟨S1x30x112, .i32⟩
  | .local _ .vmem, ⟨13, _⟩ => ⟨S1x30x112, .i32⟩
  | .local _ .vmem, ⟨14, _⟩ => ⟨S1x30x320, .i32⟩
  | .local _ .vmem, ⟨15, _⟩ => ⟨S1x30x320, .i32⟩
  | .local _ .vmem, ⟨16, _⟩ => ⟨S1x256x2880, .bf16⟩
  | .local _ .vmem, ⟨17, _⟩ => ⟨S1x256x2880, .bf16⟩
  | .local _ .vmem, ⟨18, _⟩ => ⟨S6x128x128, .i32⟩
  | .local _ .vmem, ⟨19, _⟩ => ⟨S6x128x128, .i32⟩
  | .local _ .vmem, ⟨20, _⟩ => ⟨S768x256, .i32⟩
  | .local _ .vmem, ⟨21, _⟩ => ⟨S6x768x128, .f32⟩
  | .local _ .vmem, ⟨22, _⟩ => ⟨S6x768x128, .f32⟩
  | .local _ .vmem, ⟨23, _⟩ => ⟨S6x96x768, .bf16⟩
  | .local _ .vmem, ⟨24, _⟩ => ⟨S2880x256, .bf16⟩
  | _, _ => ⟨S2x768x30x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 3], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

@[reducible] def k0_t1_loop : Scf.Loop 32 :=
  let c0_i32_125 : BitVec 32 := 0#32
  let c30_i32 : BitVec 32 := 30#32
  let v163 : BitVec 32 := Scalar.addi c0_i32_125 c30_i32
  let c1_i32_126 : BitVec 32 := 1#32
  ⟨c0_i32_125, v163, c1_i32_126⟩
def k0_off1 (k0_t1 : Fin k0_t1_loop.trips) : Fin 4 → Nat :=
  let c0_134 : Index := 0#32
  let c0_i32_125 : BitVec 32 := 0#32
  let c1_i32_126 : BitVec 32 := 1#32
  let arg18 : BitVec 32 := Scf.iv c0_i32_125 c1_i32_126 k0_t1
  let c0_i32_128 : BitVec 32 := 0#32
  let v165 : BitVec 1 := Scalar.cmpi .sgt arg18 c0_i32_128
  let v166 : BitVec 32 := Scalar.extui v165
  let c0_i32_129 : BitVec 32 := 0#32
  let v167 : BitVec 1 := Scalar.cmpi .slt arg18 c0_i32_129
  let v168 : BitVec 32 := Scalar.extui v167
  let v169 : BitVec 32 := Scalar.subi v166 v168
  let c5_i32 : BitVec 32 := 5#32
  let c0_i32_130 : BitVec 32 := 0#32
  let v170 : BitVec 1 := Scalar.cmpi .sgt c5_i32 c0_i32_130
  let v171 : BitVec 32 := Scalar.extui v170
  let c0_i32_131 : BitVec 32 := 0#32
  let v172 : BitVec 1 := Scalar.cmpi .slt c5_i32 c0_i32_131
  let v173 : BitVec 32 := Scalar.extui v172
  let v174 : BitVec 32 := Scalar.subi v171 v173
  let v175 : BitVec 1 := Scalar.cmpi .ne v169 v174
  let v176 : BitVec 32 := Scalar.remsi arg18 c5_i32
  let c0_i32_132 : BitVec 32 := 0#32
  let v177 : BitVec 1 := Scalar.cmpi .ne v176 c0_i32_132
  let v178 : BitVec 1 := Scalar.andi v175 v177
  let v164 : BitVec 32 := Scalar.divsi arg18 c5_i32
  let c1_i32_133 : BitVec 32 := 1#32
  let v179 : BitVec 32 := Scalar.subi v164 c1_i32_133
  let v180 : BitVec 32 := Scalar.select v178 v179 v164
  let v181 : Index := Scalar.indexCast v180
  let c0_135 : Index := 0#32
  let c0_136 : Index := 0#32
  ![0, v181.toNat, 0, 0]
def k0_off2 (k0_t1 : Fin k0_t1_loop.trips) : Fin 4 → Nat :=
  let c0_137 : Index := 0#32
  let c0_i32_125 : BitVec 32 := 0#32
  let c1_i32_126 : BitVec 32 := 1#32
  let arg18 : BitVec 32 := Scf.iv c0_i32_125 c1_i32_126 k0_t1
  let v184 : Index := Scalar.indexCast arg18
  let c0_138 : Index := 0#32
  let c0_139 : Index := 0#32
  ![0, v184.toNat, 0, 0]
def k0_off3 (k0_t1 : Fin k0_t1_loop.trips) : Fin 3 → Nat :=
  let c0_i32_125 : BitVec 32 := 0#32
  let c1_i32_126 : BitVec 32 := 1#32
  let arg18 : BitVec 32 := Scf.iv c0_i32_125 c1_i32_126 k0_t1
  let c0_i32_128 : BitVec 32 := 0#32
  let v165 : BitVec 1 := Scalar.cmpi .sgt arg18 c0_i32_128
  let v166 : BitVec 32 := Scalar.extui v165
  let c0_i32_129 : BitVec 32 := 0#32
  let v167 : BitVec 1 := Scalar.cmpi .slt arg18 c0_i32_129
  let v168 : BitVec 32 := Scalar.extui v167
  let v169 : BitVec 32 := Scalar.subi v166 v168
  let c5_i32 : BitVec 32 := 5#32
  let c0_i32_130 : BitVec 32 := 0#32
  let v170 : BitVec 1 := Scalar.cmpi .sgt c5_i32 c0_i32_130
  let v171 : BitVec 32 := Scalar.extui v170
  let c0_i32_131 : BitVec 32 := 0#32
  let v172 : BitVec 1 := Scalar.cmpi .slt c5_i32 c0_i32_131
  let v173 : BitVec 32 := Scalar.extui v172
  let v174 : BitVec 32 := Scalar.subi v171 v173
  let v175 : BitVec 1 := Scalar.cmpi .ne v169 v174
  let v176 : BitVec 32 := Scalar.remsi arg18 c5_i32
  let c0_i32_132 : BitVec 32 := 0#32
  let v177 : BitVec 1 := Scalar.cmpi .ne v176 c0_i32_132
  let v178 : BitVec 1 := Scalar.andi v175 v177
  let v164 : BitVec 32 := Scalar.divsi arg18 c5_i32
  let c1_i32_133 : BitVec 32 := 1#32
  let v179 : BitVec 32 := Scalar.subi v164 c1_i32_133
  let v180 : BitVec 32 := Scalar.select v178 v179 v164
  let v188 : Index := Scalar.indexCast v180
  let c0_140 : Index := 0#32
  let c0_141 : Index := 0#32
  ![v188.toNat, 0, 0]
def k0_off4 (k0_t1 : Fin k0_t1_loop.trips) : Fin 3 → Nat :=
  let c0_144 : Index := 0#32
  let c0_i32_125 : BitVec 32 := 0#32
  let c1_i32_126 : BitVec 32 := 1#32
  let arg18 : BitVec 32 := Scf.iv c0_i32_125 c1_i32_126 k0_t1
  let v197 : Index := Scalar.indexCast arg18
  let c0_145 : Index := 0#32
  ![0, v197.toNat, 0]
def k0_off5 (k0_t1 : Fin k0_t1_loop.trips) : Fin 3 → Nat :=
  let c0_i32_125 : BitVec 32 := 0#32
  let c1_i32_126 : BitVec 32 := 1#32
  let arg18 : BitVec 32 := Scf.iv c0_i32_125 c1_i32_126 k0_t1
  let c0_i32_128 : BitVec 32 := 0#32
  let v165 : BitVec 1 := Scalar.cmpi .sgt arg18 c0_i32_128
  let v166 : BitVec 32 := Scalar.extui v165
  let c0_i32_129 : BitVec 32 := 0#32
  let v167 : BitVec 1 := Scalar.cmpi .slt arg18 c0_i32_129
  let v168 : BitVec 32 := Scalar.extui v167
  let v169 : BitVec 32 := Scalar.subi v166 v168
  let c5_i32 : BitVec 32 := 5#32
  let c0_i32_130 : BitVec 32 := 0#32
  let v170 : BitVec 1 := Scalar.cmpi .sgt c5_i32 c0_i32_130
  let v171 : BitVec 32 := Scalar.extui v170
  let c0_i32_131 : BitVec 32 := 0#32
  let v172 : BitVec 1 := Scalar.cmpi .slt c5_i32 c0_i32_131
  let v173 : BitVec 32 := Scalar.extui v172
  let v174 : BitVec 32 := Scalar.subi v171 v173
  let v175 : BitVec 1 := Scalar.cmpi .ne v169 v174
  let v176 : BitVec 32 := Scalar.remsi arg18 c5_i32
  let c0_i32_132 : BitVec 32 := 0#32
  let v177 : BitVec 1 := Scalar.cmpi .ne v176 c0_i32_132
  let v178 : BitVec 1 := Scalar.andi v175 v177
  let v164 : BitVec 32 := Scalar.divsi arg18 c5_i32
  let c1_i32_133 : BitVec 32 := 1#32
  let v179 : BitVec 32 := Scalar.subi v164 c1_i32_133
  let v180 : BitVec 32 := Scalar.select v178 v179 v164
  let v223 : Index := Scalar.indexCast v180
  let c0_154 : Index := 0#32
  let c0_155 : Index := 0#32
  ![v223.toNat, 0, 0]
def k0_mult1 (k0_t1 : Fin k0_t1_loop.trips) : BitVec 32 :=
  let c0_i32_125 : BitVec 32 := 0#32
  let c1_i32_126 : BitVec 32 := 1#32
  let arg18 : BitVec 32 := Scf.iv c0_i32_125 c1_i32_126 k0_t1
  let c96_i32 : BitVec 32 := 96#32
  let v228 : BitVec 32 := Scalar.muli arg18 c96_i32
  v228
def k0_off6 (k0_t1 : Fin k0_t1_loop.trips) : Fin 2 → Nat :=
  let c0_i32_125 : BitVec 32 := 0#32
  let c1_i32_126 : BitVec 32 := 1#32
  let arg18 : BitVec 32 := Scf.iv c0_i32_125 c1_i32_126 k0_t1
  let c96_i32 : BitVec 32 := 96#32
  let v228 : BitVec 32 := Scalar.muli arg18 c96_i32
  let v229 : BitVec 32 := v228
  let v230 : Index := Scalar.indexCast v229
  let c0_157 : Index := 0#32
  ![v230.toNat, 0]
def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

@[reducible] def k0_t2_loop : Scf.Loop 32 :=
  let c0_i32_155 : BitVec 32 := 0#32
  let c30_i32 : BitVec 32 := 30#32
  let v195 : BitVec 32 := Scalar.addi c0_i32_155 c30_i32
  let c1_i32_156 : BitVec 32 := 1#32
  ⟨c0_i32_155, v195, c1_i32_156⟩
def k0_off7 (k0_t2 : Fin k0_t2_loop.trips) : Fin 4 → Nat :=
  let c0_164 : Index := 0#32
  let c0_i32_155 : BitVec 32 := 0#32
  let c1_i32_156 : BitVec 32 := 1#32
  let arg18 : BitVec 32 := Scf.iv c0_i32_155 c1_i32_156 k0_t2
  let c0_i32_158 : BitVec 32 := 0#32
  let v197 : BitVec 1 := Scalar.cmpi .sgt arg18 c0_i32_158
  let v198 : BitVec 32 := Scalar.extui v197
  let c0_i32_159 : BitVec 32 := 0#32
  let v199 : BitVec 1 := Scalar.cmpi .slt arg18 c0_i32_159
  let v200 : BitVec 32 := Scalar.extui v199
  let v201 : BitVec 32 := Scalar.subi v198 v200
  let c5_i32 : BitVec 32 := 5#32
  let c0_i32_160 : BitVec 32 := 0#32
  let v202 : BitVec 1 := Scalar.cmpi .sgt c5_i32 c0_i32_160
  let v203 : BitVec 32 := Scalar.extui v202
  let c0_i32_161 : BitVec 32 := 0#32
  let v204 : BitVec 1 := Scalar.cmpi .slt c5_i32 c0_i32_161
  let v205 : BitVec 32 := Scalar.extui v204
  let v206 : BitVec 32 := Scalar.subi v203 v205
  let v207 : BitVec 1 := Scalar.cmpi .ne v201 v206
  let v208 : BitVec 32 := Scalar.remsi arg18 c5_i32
  let c0_i32_162 : BitVec 32 := 0#32
  let v209 : BitVec 1 := Scalar.cmpi .ne v208 c0_i32_162
  let v210 : BitVec 1 := Scalar.andi v207 v209
  let v196 : BitVec 32 := Scalar.divsi arg18 c5_i32
  let c1_i32_163 : BitVec 32 := 1#32
  let v211 : BitVec 32 := Scalar.subi v196 c1_i32_163
  let v212 : BitVec 32 := Scalar.select v210 v211 v196
  let v213 : Index := Scalar.indexCast v212
  let c0_165 : Index := 0#32
  let c0_166 : Index := 0#32
  ![0, v213.toNat, 0, 0]
def k0_off8 (k0_t2 : Fin k0_t2_loop.trips) : Fin 4 → Nat :=
  let c0_167 : Index := 0#32
  let c0_i32_155 : BitVec 32 := 0#32
  let c1_i32_156 : BitVec 32 := 1#32
  let arg18 : BitVec 32 := Scf.iv c0_i32_155 c1_i32_156 k0_t2
  let v216 : Index := Scalar.indexCast arg18
  let c0_168 : Index := 0#32
  let c0_169 : Index := 0#32
  ![0, v216.toNat, 0, 0]
def k0_off9 (k0_t2 : Fin k0_t2_loop.trips) : Fin 3 → Nat :=
  let c0_i32_155 : BitVec 32 := 0#32
  let c1_i32_156 : BitVec 32 := 1#32
  let arg18 : BitVec 32 := Scf.iv c0_i32_155 c1_i32_156 k0_t2
  let c0_i32_158 : BitVec 32 := 0#32
  let v197 : BitVec 1 := Scalar.cmpi .sgt arg18 c0_i32_158
  let v198 : BitVec 32 := Scalar.extui v197
  let c0_i32_159 : BitVec 32 := 0#32
  let v199 : BitVec 1 := Scalar.cmpi .slt arg18 c0_i32_159
  let v200 : BitVec 32 := Scalar.extui v199
  let v201 : BitVec 32 := Scalar.subi v198 v200
  let c5_i32 : BitVec 32 := 5#32
  let c0_i32_160 : BitVec 32 := 0#32
  let v202 : BitVec 1 := Scalar.cmpi .sgt c5_i32 c0_i32_160
  let v203 : BitVec 32 := Scalar.extui v202
  let c0_i32_161 : BitVec 32 := 0#32
  let v204 : BitVec 1 := Scalar.cmpi .slt c5_i32 c0_i32_161
  let v205 : BitVec 32 := Scalar.extui v204
  let v206 : BitVec 32 := Scalar.subi v203 v205
  let v207 : BitVec 1 := Scalar.cmpi .ne v201 v206
  let v208 : BitVec 32 := Scalar.remsi arg18 c5_i32
  let c0_i32_162 : BitVec 32 := 0#32
  let v209 : BitVec 1 := Scalar.cmpi .ne v208 c0_i32_162
  let v210 : BitVec 1 := Scalar.andi v207 v209
  let v196 : BitVec 32 := Scalar.divsi arg18 c5_i32
  let c1_i32_163 : BitVec 32 := 1#32
  let v211 : BitVec 32 := Scalar.subi v196 c1_i32_163
  let v212 : BitVec 32 := Scalar.select v210 v211 v196
  let v220 : Index := Scalar.indexCast v212
  let c0_170 : Index := 0#32
  let c0_171 : Index := 0#32
  ![v220.toNat, 0, 0]
def k0_off10 (k0_t2 : Fin k0_t2_loop.trips) : Fin 3 → Nat :=
  let c0_174 : Index := 0#32
  let c0_i32_155 : BitVec 32 := 0#32
  let c1_i32_156 : BitVec 32 := 1#32
  let arg18 : BitVec 32 := Scf.iv c0_i32_155 c1_i32_156 k0_t2
  let v229 : Index := Scalar.indexCast arg18
  let c0_175 : Index := 0#32
  ![0, v229.toNat, 0]
def k0_off11 (k0_t2 : Fin k0_t2_loop.trips) : Fin 3 → Nat :=
  let c0_i32_155 : BitVec 32 := 0#32
  let c1_i32_156 : BitVec 32 := 1#32
  let arg18 : BitVec 32 := Scf.iv c0_i32_155 c1_i32_156 k0_t2
  let c0_i32_158 : BitVec 32 := 0#32
  let v197 : BitVec 1 := Scalar.cmpi .sgt arg18 c0_i32_158
  let v198 : BitVec 32 := Scalar.extui v197
  let c0_i32_159 : BitVec 32 := 0#32
  let v199 : BitVec 1 := Scalar.cmpi .slt arg18 c0_i32_159
  let v200 : BitVec 32 := Scalar.extui v199
  let v201 : BitVec 32 := Scalar.subi v198 v200
  let c5_i32 : BitVec 32 := 5#32
  let c0_i32_160 : BitVec 32 := 0#32
  let v202 : BitVec 1 := Scalar.cmpi .sgt c5_i32 c0_i32_160
  let v203 : BitVec 32 := Scalar.extui v202
  let c0_i32_161 : BitVec 32 := 0#32
  let v204 : BitVec 1 := Scalar.cmpi .slt c5_i32 c0_i32_161
  let v205 : BitVec 32 := Scalar.extui v204
  let v206 : BitVec 32 := Scalar.subi v203 v205
  let v207 : BitVec 1 := Scalar.cmpi .ne v201 v206
  let v208 : BitVec 32 := Scalar.remsi arg18 c5_i32
  let c0_i32_162 : BitVec 32 := 0#32
  let v209 : BitVec 1 := Scalar.cmpi .ne v208 c0_i32_162
  let v210 : BitVec 1 := Scalar.andi v207 v209
  let v196 : BitVec 32 := Scalar.divsi arg18 c5_i32
  let c1_i32_163 : BitVec 32 := 1#32
  let v211 : BitVec 32 := Scalar.subi v196 c1_i32_163
  let v212 : BitVec 32 := Scalar.select v210 v211 v196
  let v255 : Index := Scalar.indexCast v212
  let c0_184 : Index := 0#32
  let c0_185 : Index := 0#32
  ![v255.toNat, 0, 0]
def k0_mult2 (k0_t2 : Fin k0_t2_loop.trips) : BitVec 32 :=
  let c0_i32_155 : BitVec 32 := 0#32
  let c1_i32_156 : BitVec 32 := 1#32
  let arg18 : BitVec 32 := Scf.iv c0_i32_155 c1_i32_156 k0_t2
  let c96_i32 : BitVec 32 := 96#32
  let v260 : BitVec 32 := Scalar.muli arg18 c96_i32
  v260
def k0_off12 (k0_t2 : Fin k0_t2_loop.trips) : Fin 2 → Nat :=
  let c0_i32_155 : BitVec 32 := 0#32
  let c1_i32_156 : BitVec 32 := 1#32
  let arg18 : BitVec 32 := Scf.iv c0_i32_155 c1_i32_156 k0_t2
  let c96_i32 : BitVec 32 := 96#32
  let v260 : BitVec 32 := Scalar.muli arg18 c96_i32
  let v261 : BitVec 32 := v260
  let v262 : Index := Scalar.indexCast v261
  let c0_187 : Index := 0#32
  ![v262.toNat, 0]
def k0_cond4 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_4 : BitVec 32 := 0#32
  let v11 : BitVec 1 := Scalar.cmpi .ne v10 c0_i32_4
  v11

@[reducible] def k0_t3_loop : Scf.Loop 32 :=
  let c0_i32_185 : BitVec 32 := 0#32
  let c30_i32 : BitVec 32 := 30#32
  let v227 : BitVec 32 := Scalar.addi c0_i32_185 c30_i32
  let c1_i32_186 : BitVec 32 := 1#32
  ⟨c0_i32_185, v227, c1_i32_186⟩
def k0_off13 (k0_t3 : Fin k0_t3_loop.trips) : Fin 4 → Nat :=
  let c0_194 : Index := 0#32
  let c0_i32_185 : BitVec 32 := 0#32
  let c1_i32_186 : BitVec 32 := 1#32
  let arg18 : BitVec 32 := Scf.iv c0_i32_185 c1_i32_186 k0_t3
  let c0_i32_188 : BitVec 32 := 0#32
  let v229 : BitVec 1 := Scalar.cmpi .sgt arg18 c0_i32_188
  let v230 : BitVec 32 := Scalar.extui v229
  let c0_i32_189 : BitVec 32 := 0#32
  let v231 : BitVec 1 := Scalar.cmpi .slt arg18 c0_i32_189
  let v232 : BitVec 32 := Scalar.extui v231
  let v233 : BitVec 32 := Scalar.subi v230 v232
  let c5_i32 : BitVec 32 := 5#32
  let c0_i32_190 : BitVec 32 := 0#32
  let v234 : BitVec 1 := Scalar.cmpi .sgt c5_i32 c0_i32_190
  let v235 : BitVec 32 := Scalar.extui v234
  let c0_i32_191 : BitVec 32 := 0#32
  let v236 : BitVec 1 := Scalar.cmpi .slt c5_i32 c0_i32_191
  let v237 : BitVec 32 := Scalar.extui v236
  let v238 : BitVec 32 := Scalar.subi v235 v237
  let v239 : BitVec 1 := Scalar.cmpi .ne v233 v238
  let v240 : BitVec 32 := Scalar.remsi arg18 c5_i32
  let c0_i32_192 : BitVec 32 := 0#32
  let v241 : BitVec 1 := Scalar.cmpi .ne v240 c0_i32_192
  let v242 : BitVec 1 := Scalar.andi v239 v241
  let v228 : BitVec 32 := Scalar.divsi arg18 c5_i32
  let c1_i32_193 : BitVec 32 := 1#32
  let v243 : BitVec 32 := Scalar.subi v228 c1_i32_193
  let v244 : BitVec 32 := Scalar.select v242 v243 v228
  let v245 : Index := Scalar.indexCast v244
  let c0_195 : Index := 0#32
  let c0_196 : Index := 0#32
  ![0, v245.toNat, 0, 0]
def k0_off14 (k0_t3 : Fin k0_t3_loop.trips) : Fin 4 → Nat :=
  let c0_197 : Index := 0#32
  let c0_i32_185 : BitVec 32 := 0#32
  let c1_i32_186 : BitVec 32 := 1#32
  let arg18 : BitVec 32 := Scf.iv c0_i32_185 c1_i32_186 k0_t3
  let v248 : Index := Scalar.indexCast arg18
  let c0_198 : Index := 0#32
  let c0_199 : Index := 0#32
  ![0, v248.toNat, 0, 0]
def k0_off15 (k0_t3 : Fin k0_t3_loop.trips) : Fin 3 → Nat :=
  let c0_i32_185 : BitVec 32 := 0#32
  let c1_i32_186 : BitVec 32 := 1#32
  let arg18 : BitVec 32 := Scf.iv c0_i32_185 c1_i32_186 k0_t3
  let c0_i32_188 : BitVec 32 := 0#32
  let v229 : BitVec 1 := Scalar.cmpi .sgt arg18 c0_i32_188
  let v230 : BitVec 32 := Scalar.extui v229
  let c0_i32_189 : BitVec 32 := 0#32
  let v231 : BitVec 1 := Scalar.cmpi .slt arg18 c0_i32_189
  let v232 : BitVec 32 := Scalar.extui v231
  let v233 : BitVec 32 := Scalar.subi v230 v232
  let c5_i32 : BitVec 32 := 5#32
  let c0_i32_190 : BitVec 32 := 0#32
  let v234 : BitVec 1 := Scalar.cmpi .sgt c5_i32 c0_i32_190
  let v235 : BitVec 32 := Scalar.extui v234
  let c0_i32_191 : BitVec 32 := 0#32
  let v236 : BitVec 1 := Scalar.cmpi .slt c5_i32 c0_i32_191
  let v237 : BitVec 32 := Scalar.extui v236
  let v238 : BitVec 32 := Scalar.subi v235 v237
  let v239 : BitVec 1 := Scalar.cmpi .ne v233 v238
  let v240 : BitVec 32 := Scalar.remsi arg18 c5_i32
  let c0_i32_192 : BitVec 32 := 0#32
  let v241 : BitVec 1 := Scalar.cmpi .ne v240 c0_i32_192
  let v242 : BitVec 1 := Scalar.andi v239 v241
  let v228 : BitVec 32 := Scalar.divsi arg18 c5_i32
  let c1_i32_193 : BitVec 32 := 1#32
  let v243 : BitVec 32 := Scalar.subi v228 c1_i32_193
  let v244 : BitVec 32 := Scalar.select v242 v243 v228
  let v252 : Index := Scalar.indexCast v244
  let c0_200 : Index := 0#32
  let c0_201 : Index := 0#32
  ![v252.toNat, 0, 0]
def k0_off16 (k0_t3 : Fin k0_t3_loop.trips) : Fin 3 → Nat :=
  let c0_204 : Index := 0#32
  let c0_i32_185 : BitVec 32 := 0#32
  let c1_i32_186 : BitVec 32 := 1#32
  let arg18 : BitVec 32 := Scf.iv c0_i32_185 c1_i32_186 k0_t3
  let v261 : Index := Scalar.indexCast arg18
  let c0_205 : Index := 0#32
  ![0, v261.toNat, 0]
def k0_off17 (k0_t3 : Fin k0_t3_loop.trips) : Fin 3 → Nat :=
  let c0_i32_185 : BitVec 32 := 0#32
  let c1_i32_186 : BitVec 32 := 1#32
  let arg18 : BitVec 32 := Scf.iv c0_i32_185 c1_i32_186 k0_t3
  let c0_i32_188 : BitVec 32 := 0#32
  let v229 : BitVec 1 := Scalar.cmpi .sgt arg18 c0_i32_188
  let v230 : BitVec 32 := Scalar.extui v229
  let c0_i32_189 : BitVec 32 := 0#32
  let v231 : BitVec 1 := Scalar.cmpi .slt arg18 c0_i32_189
  let v232 : BitVec 32 := Scalar.extui v231
  let v233 : BitVec 32 := Scalar.subi v230 v232
  let c5_i32 : BitVec 32 := 5#32
  let c0_i32_190 : BitVec 32 := 0#32
  let v234 : BitVec 1 := Scalar.cmpi .sgt c5_i32 c0_i32_190
  let v235 : BitVec 32 := Scalar.extui v234
  let c0_i32_191 : BitVec 32 := 0#32
  let v236 : BitVec 1 := Scalar.cmpi .slt c5_i32 c0_i32_191
  let v237 : BitVec 32 := Scalar.extui v236
  let v238 : BitVec 32 := Scalar.subi v235 v237
  let v239 : BitVec 1 := Scalar.cmpi .ne v233 v238
  let v240 : BitVec 32 := Scalar.remsi arg18 c5_i32
  let c0_i32_192 : BitVec 32 := 0#32
  let v241 : BitVec 1 := Scalar.cmpi .ne v240 c0_i32_192
  let v242 : BitVec 1 := Scalar.andi v239 v241
  let v228 : BitVec 32 := Scalar.divsi arg18 c5_i32
  let c1_i32_193 : BitVec 32 := 1#32
  let v243 : BitVec 32 := Scalar.subi v228 c1_i32_193
  let v244 : BitVec 32 := Scalar.select v242 v243 v228
  let v287 : Index := Scalar.indexCast v244
  let c0_214 : Index := 0#32
  let c0_215 : Index := 0#32
  ![v287.toNat, 0, 0]
def k0_mult3 (k0_t3 : Fin k0_t3_loop.trips) : BitVec 32 :=
  let c0_i32_185 : BitVec 32 := 0#32
  let c1_i32_186 : BitVec 32 := 1#32
  let arg18 : BitVec 32 := Scf.iv c0_i32_185 c1_i32_186 k0_t3
  let c96_i32 : BitVec 32 := 96#32
  let v292 : BitVec 32 := Scalar.muli arg18 c96_i32
  v292
def k0_off18 (k0_t3 : Fin k0_t3_loop.trips) : Fin 2 → Nat :=
  let c0_i32_185 : BitVec 32 := 0#32
  let c1_i32_186 : BitVec 32 := 1#32
  let arg18 : BitVec 32 := Scf.iv c0_i32_185 c1_i32_186 k0_t3
  let c96_i32 : BitVec 32 := 96#32
  let v292 : BitVec 32 := Scalar.muli arg18 c96_i32
  let v293 : BitVec 32 := v292
  let v294 : Index := Scalar.indexCast v293
  let c0_217 : Index := 0#32
  ![v294.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x30x256x96 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x30x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x768x96 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x768x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x6x768x96 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x768x6 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x30x112 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x30x320 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x2880 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "scale_log2e" => some (((Real.sqrt 96)⁻¹ * (Real.log 2)⁻¹ : ℝ) : EReal)
  | _ => none
-- ==== ReferenceIdeal.lean ====
abbrev S2x768x30x96 : Shape := ⟨4, ![2, 768, 30, 96]⟩
abbrev S2x768x30 : Shape := ⟨3, ![2, 768, 30]⟩
abbrev S2x768x6x96 : Shape := ⟨4, ![2, 768, 6, 96]⟩
abbrev S2x768x6 : Shape := ⟨3, ![2, 768, 6]⟩
abbrev S2x30x112 : Shape := ⟨3, ![2, 30, 112]⟩
abbrev S2x30x320 : Shape := ⟨3, ![2, 30, 320]⟩
abbrev S_ : Shape := ⟨0, ![]⟩
abbrev S2x768x6x5x96 : Shape := ⟨5, ![2, 768, 6, 5, 96]⟩
abbrev S2x768x6x5 : Shape := ⟨4, ![2, 768, 6, 5]⟩
abbrev S2x6x5x768 : Shape := ⟨4, ![2, 6, 5, 768]⟩
abbrev S2x6x5x768x1 : Shape := ⟨5, ![2, 6, 5, 768, 1]⟩
abbrev S2x6x768 : Shape := ⟨3, ![2, 6, 768]⟩
abbrev S2x6x1x1x768 : Shape := ⟨5, ![2, 6, 1, 1, 768]⟩
abbrev S2x6x768x768x5 : Shape := ⟨5, ![2, 6, 768, 768, 5]⟩
abbrev S2x6x5x768x768 : Shape := ⟨5, ![2, 6, 5, 768, 768]⟩
abbrev S768 : Shape := ⟨1, ![768]⟩
abbrev S768x1 : Shape := ⟨2, ![768, 1]⟩
abbrev S1x768 : Shape := ⟨2, ![1, 768]⟩
abbrev S768x768 : Shape := ⟨2, ![768, 768]⟩
abbrev S2x30x1x112 : Shape := ⟨4, ![2, 30, 1, 112]⟩
abbrev S1x1x768x1 : Shape := ⟨4, ![1, 1, 768, 1]⟩
abbrev S2x30x768x112 : Shape := ⟨4, ![2, 30, 768, 112]⟩
abbrev S2x30x768 : Shape := ⟨3, ![2, 30, 768]⟩
abbrev S2x30x1x1x320 : Shape := ⟨5, ![2, 30, 1, 1, 320]⟩
abbrev S768x768x1 : Shape := ⟨3, ![768, 768, 1]⟩
abbrev S1x1x768x768x1 : Shape := ⟨5, ![1, 1, 768, 768, 1]⟩
abbrev S2x30x768x768x320 : Shape := ⟨5, ![2, 30, 768, 768, 320]⟩
abbrev S2x30x768x768 : Shape := ⟨4, ![2, 30, 768, 768]⟩
abbrev S1x1x768x768 : Shape := ⟨4, ![1, 1, 768, 768]⟩
abbrev S2x30x1x768 : Shape := ⟨4, ![2, 30, 1, 768]⟩
abbrev S2x6x96x5x768 : Shape := ⟨5, ![2, 6, 96, 5, 768]⟩
abbrev S2x768x2880 : Shape := ⟨3, ![2, 768, 2880]⟩

abbrev nBuf : Space → Nat
  | .hbm => 93
  | .vmem => 6
  | .smem => 0
  | _ => 0

abbrev bufTy : (tb : Table) → Fin (tcTables nBuf tb) → BufTy
  | .hbm, ⟨0, _⟩ => ⟨S2x768x30x96, .fp8e4m3⟩
  | .hbm, ⟨1, _⟩ => ⟨S2x768x30, .f32⟩
  | .hbm, ⟨2, _⟩ => ⟨S2x768x6x96, .fp8e4m3⟩
  | .hbm, ⟨3, _⟩ => ⟨S2x768x6, .f32⟩
  | .hbm, ⟨4, _⟩ => ⟨S2x768x6x96, .fp8e4m3⟩
  | .hbm, ⟨5, _⟩ => ⟨S2x768x6, .f32⟩
  | .hbm, ⟨6, _⟩ => ⟨S2x30x112, .i32⟩
  | .hbm, ⟨7, _⟩ => ⟨S2x30x320, .i32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x768x30x96, .f32⟩
  | .hbm, ⟨13, _⟩ => ⟨S2x768x6x96, .f32⟩
  | .hbm, ⟨14, _⟩ => ⟨S2x768x6x96, .bf16⟩
  | .hbm, ⟨15, _⟩ => ⟨S2x768x6x5x96, .f32⟩
  | .hbm, ⟨16, _⟩ => ⟨S2x768x6x5, .f32⟩
  | .hbm, ⟨17, _⟩ => ⟨S2x6x5x768, .f32⟩
  | .hbm, ⟨18, _⟩ => ⟨S2x6x5x768x1, .f32⟩
  | .hbm, ⟨19, _⟩ => ⟨S2x6x768, .f32⟩
  | .hbm, ⟨20, _⟩ => ⟨S2x6x1x1x768, .f32⟩
  | .hbm, ⟨21, _⟩ => ⟨S2x6x1x1x768, .f32⟩
  | .hbm, ⟨22, _⟩ => ⟨S2x6x1x1x768, .f32⟩
  | .hbm, ⟨23, _⟩ => ⟨S2x6x768, .f32⟩
  | .hbm, ⟨24, _⟩ => ⟨S2x6x1x1x768, .f32⟩
  | .hbm, ⟨25, _⟩ => ⟨S2x6x768x768x5, .f32⟩
  | .hbm, ⟨26, _⟩ => ⟨S2x6x5x768x768, .f32⟩
  | .hbm, ⟨27, _⟩ => ⟨S2x6x5x768x768, .f32⟩
  | .hbm, ⟨28, _⟩ => ⟨S2x6x5x768x768, .f32⟩
  | .hbm, ⟨29, _⟩ => ⟨S2x6x5x768x768, .f32⟩
  | .hbm, ⟨30, _⟩ => ⟨S2x6x5x768x768, .f32⟩
  | .hbm, ⟨31, _⟩ => ⟨S768, .i32⟩
  | .hbm, ⟨32, _⟩ => ⟨S768x1, .i32⟩
  | .hbm, ⟨33, _⟩ => ⟨S1x768, .i32⟩
  | .hbm, ⟨34, _⟩ => ⟨S768x768, .i32⟩
  | .hbm, ⟨35, _⟩ => ⟨S768x768, .i32⟩
  | .hbm, ⟨36, _⟩ => ⟨S768x768, .i32⟩
  | .hbm, ⟨37, _⟩ => ⟨S2x30x1x112, .i32⟩
  | .hbm, ⟨38, _⟩ => ⟨S768x1, .i32⟩
  | .hbm, ⟨39, _⟩ => ⟨S1x1x768x1, .i32⟩
  | .hbm, ⟨40, _⟩ => ⟨S2x30x768x112, .i32⟩
  | .hbm, ⟨41, _⟩ => ⟨S2x30x768x112, .i32⟩
  | .hbm, ⟨42, _⟩ => ⟨S2x30x768x112, .i1⟩
  | .hbm, ⟨43, _⟩ => ⟨S_, .i1⟩
  | .hbm, ⟨44, _⟩ => ⟨S2x30x768, .i1⟩
  | .hbm, ⟨45, _⟩ => ⟨S2x30x1x1x320, .i32⟩
  | .hbm, ⟨46, _⟩ => ⟨S768x768x1, .i32⟩
  | .hbm, ⟨47, _⟩ => ⟨S1x1x768x768x1, .i32⟩
  | .hbm, ⟨48, _⟩ => ⟨S2x30x768x768x320, .i32⟩
  | .hbm, ⟨49, _⟩ => ⟨S2x30x768x768x320, .i32⟩
  | .hbm, ⟨50, _⟩ => ⟨S2x30x768x768x320, .i1⟩
  | .hbm, ⟨51, _⟩ => ⟨S_, .i1⟩
  | .hbm, ⟨52, _⟩ => ⟨S2x30x768x768, .i1⟩
  | .hbm, ⟨53, _⟩ => ⟨S_, .i32⟩
  | .hbm, ⟨54, _⟩ => ⟨S768x768, .i32⟩
  | .hbm, ⟨55, _⟩ => ⟨S768x768, .i1⟩
  | .hbm, ⟨56, _⟩ => ⟨S1x1x768x768, .i1⟩
  | .hbm, ⟨57, _⟩ => ⟨S2x30x1x768, .i1⟩
  | .hbm, ⟨58, _⟩ => ⟨S2x30x768x768, .i1⟩
  | .hbm, ⟨59, _⟩ => ⟨S2x30x768x768, .i1⟩
  | .hbm, ⟨60, _⟩ => ⟨S2x30x768x768, .i1⟩
  | .hbm, ⟨61, _⟩ => ⟨S2x30x768x768, .i1⟩
  | .hbm, ⟨62, _⟩ => ⟨S2x6x5x768x768, .i1⟩
  | .hbm, ⟨63, _⟩ => ⟨S_, .f32⟩
  | .hbm, ⟨64, _⟩ => ⟨S_, .f32⟩
  | .hbm, ⟨65, _⟩ => ⟨S2x6x5x768x768, .f32⟩
  | .hbm, ⟨66, _⟩ => ⟨S2x6x5x768x768, .f32⟩
  | .hbm, ⟨67, _⟩ => ⟨S_, .f32⟩
  | .hbm, ⟨68, _⟩ => ⟨S2x6x5x768, .f32⟩
  | .hbm, ⟨69, _⟩ => ⟨S2x6x5x768x1, .f32⟩
  | .hbm, ⟨70, _⟩ => ⟨S2x6x5x768x768, .f32⟩
  | .hbm, ⟨71, _⟩ => ⟨S2x6x5x768x768, .f32⟩
  | .hbm, ⟨72, _⟩ => ⟨S2x6x5x768x768, .f32⟩
  | .hbm, ⟨73, _⟩ => ⟨S_, .f32⟩
  | .hbm, ⟨74, _⟩ => ⟨S2x6x5x768, .f32⟩
  | .hbm, ⟨75, _⟩ => ⟨S2x6x5x768x1, .f32⟩
  | .hbm, ⟨76, _⟩ => ⟨S_, .f32⟩
  | .hbm, ⟨77, _⟩ => ⟨S2x6x5x768x1, .f32⟩
  | .hbm, ⟨78, _⟩ => ⟨S2x6x5x768x1, .i1⟩
  | .hbm, ⟨79, _⟩ => ⟨S2x6x5x768x768, .f32⟩
  | .hbm, ⟨80, _⟩ => ⟨S2x6x5x768x768, .f32⟩
  | .hbm, ⟨81, _⟩ => ⟨S_, .f32⟩
  | .hbm, ⟨82, _⟩ => ⟨S_, .f32⟩
  | .hbm, ⟨83, _⟩ => ⟨S2x6x5x768x768, .i1⟩
  | .hbm, ⟨84, _⟩ => ⟨S2x6x5x768x768, .f32⟩
  | .hbm, ⟨85, _⟩ => ⟨S2x6x5x768x768, .f32⟩
  | .hbm, ⟨86, _⟩ => ⟨S2x6x5x768x768, .f32⟩
  | .hbm, ⟨87, _⟩ => ⟨S2x6x5x768x768, .f32⟩
  | .hbm, ⟨88, _⟩ => ⟨S2x6x5x768x768, .bf16⟩
  | .hbm, ⟨89, _⟩ => ⟨S2x6x96x5x768, .f32⟩
  | .hbm, ⟨90, _⟩ => ⟨S2x768x6x5x96, .f32⟩
  | .hbm, ⟨91, _⟩ => ⟨S2x768x2880, .f32⟩
  | .hbm, ⟨92, _⟩ => ⟨S2x768x2880, .bf16⟩
  | .local _ .vmem, ⟨0, _⟩ => ⟨S2x768x30x96, .fp8e4m3⟩
  | .local _ .vmem, ⟨1, _⟩ => ⟨S2x768x6x96, .fp8e4m3⟩
  | .local _ .vmem, ⟨2, _⟩ => ⟨S2x768x6x96, .fp8e4m3⟩
  | .local _ .vmem, ⟨3, _⟩ => ⟨S2x768x30x96, .f32⟩
  | .local _ .vmem, ⟨4, _⟩ => ⟨S2x768x6x96, .f32⟩
  | .local _ .vmem, ⟨5, _⟩ => ⟨S2x768x6x96, .bf16⟩
  | _, _ => ⟨S2x768x30x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_1 : Ref sig .tc := ⟨.hbm, 51, rfl⟩
abbrev main_v38 : Ref sig .tc := ⟨.hbm, 52, rfl⟩
abbrev main_c_2 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_3 : Ref sig .tc := ⟨.hbm, 63, rfl⟩
abbrev main_call0_v0 : Ref sig .tc := ⟨.hbm, 64, rfl⟩
abbrev main_call0_v1 : Ref sig .tc := ⟨.hbm, 65, rfl⟩
abbrev main_v48 : Ref sig .tc := ⟨.hbm, 66, rfl⟩
abbrev main_cst_4 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_5 : Ref sig .tc := ⟨.hbm, 73, rfl⟩
abbrev main_v54 : Ref sig .tc := ⟨.hbm, 74, rfl⟩
abbrev main_v55 : Ref sig .tc := ⟨.hbm, 75, rfl⟩
abbrev main_cst_6 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x768x30x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x6x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x6x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x768x30x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x768x6x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x6x96 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRunA.lean ====
module

public import proofs.«01_k».proof.Proof.Gen.Kernel.Frame
public import proofs.«01_k».proof.Proof.Gen.Kernel.Loops

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The first grid axis is at the batch's first query block. -/
abbrev k0_first (i : grid0.Coords) : Prop :=
  (Scalar.cmpi .ne (Scalar.extui (Scalar.cmpi .eq (BitVec.ofNat 32 (i 1).val) 0#32)) 0#32) = 1#1

set_option maxHeartbeats 40000000 in
/-- The body's run in case A (the first of a batch's three blocks: the tables are built, then 256 keys): from the inputs' buffers and the scratch at stated
    contents (`x·`) and the output's at anything it runs to its end, and gives back the inputs as they were and each
    buffer it stored into with the pieces it stored (last first). The pieces are the witness. -/
def runA (c : Dev nD) (i : grid0.Coords) (arg2 : Memref sig .tc .vmem S1x30x256x96 .fp8e4m3) (harg2 : arg2.IsWhole) (arg3 : Memref sig .tc .vmem S1x30x256 .f32) (harg3 : arg3.IsWhole) (arg4 : Memref sig .tc .vmem S1x6x768x96 .fp8e4m3) (harg4 : arg4.IsWhole) (arg5 : Memref sig .tc .vmem S1x768x6 .f32) (harg5 : arg5.IsWhole) (arg6 : Memref sig .tc .vmem S1x6x768x96 .fp8e4m3) (harg6 : arg6.IsWhole) (arg7 : Memref sig .tc .vmem S1x768x6 .f32) (harg7 : arg7.IsWhole) (arg8 : Memref sig .tc .vmem S1x30x112 .i32) (harg8 : arg8.IsWhole) (arg9 : Memref sig .tc .vmem S1x30x320 .i32) (harg9 : arg9.IsWhole) (arg10 : Memref sig .tc .vmem S1x256x2880 .bf16) (harg10 : arg10.IsWhole) (arg11 : Memref sig .tc .vmem S6x128x128 .i32) (harg11 : arg11.IsWhole) (arg12 : Memref sig .tc .vmem S6x128x128 .i32) (harg12 : arg12.IsWhole) (arg13 : Memref sig .tc .vmem S768x256 .i32) (harg13 : arg13.IsWhole) (arg14 : Memref sig .tc .vmem S6x768x128 .f32) (harg14 : arg14.IsWhole) (arg15 : Memref sig .tc .vmem S6x768x128 .f32) (harg15 : arg15.IsWhole) (arg16 : Memref sig .tc .vmem S6x96x768 .bf16) (harg16 : arg16.IsWhole) (arg17 : Memref sig .tc .vmem S2880x256 .bf16) (harg17 : arg17.IsWhole)
    (hc1 : k0_first i) (hc2 : k0_cond2 i = 1#1) (hc3 : ¬k0_cond3 i = 1#1) (hc4 : ¬k0_cond4 i = 1#1)
    (x2 : Vec F S1x30x256x96 .fp8e4m3) (x3 : Vec F S1x30x256 .f32) (x4 : Vec F S1x6x768x96 .fp8e4m3) (x5 : Vec F S1x768x6 .f32) (x6 : Vec F S1x6x768x96 .fp8e4m3) (x7 : Vec F S1x768x6 .f32) (x8 : Vec F S1x30x112 .i32) (x9 : Vec F S1x30x320 .i32) (x11 : Vec F S6x128x128 .i32) (x12 : Vec F S6x128x128 .i32) (x13 : Vec F S768x256 .i32) (x14 : Vec F S6x768x128 .f32) (x15 : Vec F S6x768x128 .f32) (x16 : Vec F S6x96x768 .bf16) (x17 : Vec F S2880x256 .bf16) :
    Σ' (L10 : List (View.Piece (Elt F) S1x256x2880 .bf16)) (L11 : List (View.Piece (Elt F) S6x128x128 .i32)) (L12 : List (View.Piece (Elt F) S6x128x128 .i32)) (L13 : List (View.Piece (Elt F) S768x256 .i32)) (L14 : List (View.Piece (Elt F) S6x768x128 .f32)) (L15 : List (View.Piece (Elt F) S6x768x128 .f32)) (L16 : List (View.Piece (Elt F) S6x96x768 .bf16)), { L17 : List (View.Piece (Elt F) S2880x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0__attention_kernel_eq_skeleton]; unfold cc0__attention_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact hc1 | sl_exact hc2 | sl_exact hc3 | sl_exact hc4)
    sl_step
    iapply Hk
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      · ipureintro; exact harg8.read_unread _
      iexact H8
    isplitl [H9]
    · iexists _; isplitr
      · ipureintro; exact harg9.read_unread _
      iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    iexists _; iexact H17

end Cert.Kernel.Run

end
-- ==== Proof.KernelRunB.lean ====
module

public import proofs.«01_k».proof.Proof.KernelRunA

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 40000000 in
/-- The body's run in case B (the second block of a batch: 512 keys): from the inputs' buffers and the scratch at stated
    contents (`x·`) and the output's at anything it runs to its end, and gives back the inputs as they were and each
    buffer it stored into with the pieces it stored (last first). The pieces are the witness. -/
def runB (c : Dev nD) (i : grid0.Coords) (arg2 : Memref sig .tc .vmem S1x30x256x96 .fp8e4m3) (harg2 : arg2.IsWhole) (arg3 : Memref sig .tc .vmem S1x30x256 .f32) (harg3 : arg3.IsWhole) (arg4 : Memref sig .tc .vmem S1x6x768x96 .fp8e4m3) (harg4 : arg4.IsWhole) (arg5 : Memref sig .tc .vmem S1x768x6 .f32) (harg5 : arg5.IsWhole) (arg6 : Memref sig .tc .vmem S1x6x768x96 .fp8e4m3) (harg6 : arg6.IsWhole) (arg7 : Memref sig .tc .vmem S1x768x6 .f32) (harg7 : arg7.IsWhole) (arg8 : Memref sig .tc .vmem S1x30x112 .i32) (harg8 : arg8.IsWhole) (arg9 : Memref sig .tc .vmem S1x30x320 .i32) (harg9 : arg9.IsWhole) (arg10 : Memref sig .tc .vmem S1x256x2880 .bf16) (harg10 : arg10.IsWhole) (arg11 : Memref sig .tc .vmem S6x128x128 .i32) (harg11 : arg11.IsWhole) (arg12 : Memref sig .tc .vmem S6x128x128 .i32) (harg12 : arg12.IsWhole) (arg13 : Memref sig .tc .vmem S768x256 .i32) (harg13 : arg13.IsWhole) (arg14 : Memref sig .tc .vmem S6x768x128 .f32) (harg14 : arg14.IsWhole) (arg15 : Memref sig .tc .vmem S6x768x128 .f32) (harg15 : arg15.IsWhole) (arg16 : Memref sig .tc .vmem S6x96x768 .bf16) (harg16 : arg16.IsWhole) (arg17 : Memref sig .tc .vmem S2880x256 .bf16) (harg17 : arg17.IsWhole)
    (hc1 : ¬k0_first i) (hc2 : ¬k0_cond2 i = 1#1) (hc3 : k0_cond3 i = 1#1) (hc4 : ¬k0_cond4 i = 1#1)
    (x2 : Vec F S1x30x256x96 .fp8e4m3) (x3 : Vec F S1x30x256 .f32) (x4 : Vec F S1x6x768x96 .fp8e4m3) (x5 : Vec F S1x768x6 .f32) (x6 : Vec F S1x6x768x96 .fp8e4m3) (x7 : Vec F S1x768x6 .f32) (x8 : Vec F S1x30x112 .i32) (x9 : Vec F S1x30x320 .i32) (x11 : Vec F S6x128x128 .i32) (x12 : Vec F S6x128x128 .i32) (x13 : Vec F S768x256 .i32) (x14 : Vec F S6x768x128 .f32) (x15 : Vec F S6x768x128 .f32) (x16 : Vec F S6x96x768 .bf16) (x17 : Vec F S2880x256 .bf16) :
    Σ' (L10 : List (View.Piece (Elt F) S1x256x2880 .bf16)) (L13 : List (View.Piece (Elt F) S768x256 .i32)), { L17 : List (View.Piece (Elt F) S2880x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ owns (c : Thread nD τ) arg14 fullShare x14 ∗ owns (c : Thread nD τ) arg15 fullShare x15 ∗ owns (c : Thread nD τ) arg16 fullShare x16 ∗ (∃ f, arg17.view.loc (c : Thread nD τ) ↦[arg17.view.set]{fullShare} arg17.view.writes (Elt F) f L17)) -∗ K ⟨⟩))
          ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0__attention_kernel_eq_skeleton]; unfold cc0__attention_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact hc1 | sl_exact hc2 | sl_exact hc3 | sl_exact hc4)
    sl_step
    iapply Hk
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      · ipureintro; exact harg8.read_unread _
      iexact H8
    isplitl [H9]
    · iexists _; isplitr
      · ipureintro; exact harg9.read_unread _
      iexact H9
    isplitl [H10]
    · iexists _; iexact H10
    isplitl [H11]
    · iexists _; isplitr
      · ipureintro; exact harg11.read_unread _
      iexact H11
    isplitl [H12]
    · iexists _; isplitr
      · ipureintro; exact harg12.read_unread _
      iexact H12
    isplitl [H13]
    · iexists _; iexact H13
    isplitl [H14]
    · iexists _; isplitr
      · ipureintro; exact harg14.read_unread _
      iexact H14
    isplitl [H15]
    · iexists _; isplitr
      · ipureintro; exact harg15.read_unread _
      iexact H15
    isplitl [H16]
    · iexists _; isplitr
      · ipureintro; exact harg16.read_unread _
      iexact H16
    iexists _; iexact H17

end Cert.Kernel.Run

end
-- ==== Proof.KernelRunC.lean ====
module

public import proofs.«01_k».proof.Proof.KernelRunB

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 40000000 in
/-- The body's run in case C (the third block of a batch: 768 keys): from the inputs' buffers and the scratch at stated
    contents (`x·`) and the output's at anything it runs to its end, and gives back the inputs as they were and each
    buffer it stored into with the pieces it stored (last first). The pieces are the witness. -/
def runC (c : Dev nD) (i : grid0.Coords) (arg2 : Memref sig .tc .vmem S1x30x256x96 .fp8e4m3) (harg2 : arg2.IsWhole) (arg3 : Memref sig .tc .vmem S1x30x256 .f32) (harg3 : arg3.IsWhole) (arg4 : Memref sig .tc .vmem S1x6x768x96 .fp8e4m3) (harg4 : arg4.IsWhole) (arg5 : Memref sig .tc .vmem S1x768x6 .f32) (harg5 : arg5.IsWhole) (arg6 : Memref sig .tc .vmem S1x6x768x96 .fp8e4m3) (harg6 : arg6.IsWhole) (arg7 : Memref sig .tc .vmem S1x768x6 .f32) (harg7 : arg7.IsWhole) (arg8 : Memref sig .tc .vmem S1x30x112 .i32) (harg8 : arg8.IsWhole) (arg9 : Memref sig .tc .vmem S1x30x320 .i32) (harg9 : arg9.IsWhole) (arg10 : Memref sig .tc .vmem S1x256x2880 .bf16) (harg10 : arg10.IsWhole) (arg11 : Memref sig .tc .vmem S6x128x128 .i32) (harg11 : arg11.IsWhole) (arg12 : Memref sig .tc .vmem S6x128x128 .i32) (harg12 : arg12.IsWhole) (arg13 : Memref sig .tc .vmem S768x256 .i32) (harg13 : arg13.IsWhole) (arg14 : Memref sig .tc .vmem S6x768x128 .f32) (harg14 : arg14.IsWhole) (arg15 : Memref sig .tc .vmem S6x768x128 .f32) (harg15 : arg15.IsWhole) (arg16 : Memref sig .tc .vmem S6x96x768 .bf16) (harg16 : arg16.IsWhole) (arg17 : Memref sig .tc .vmem S2880x256 .bf16) (harg17 : arg17.IsWhole)
    (hc1 : ¬k0_first i) (hc2 : ¬k0_cond2 i = 1#1) (hc3 : ¬k0_cond3 i = 1#1) (hc4 : k0_cond4 i = 1#1)
    (x2 : Vec F S1x30x256x96 .fp8e4m3) (x3 : Vec F S1x30x256 .f32) (x4 : Vec F S1x6x768x96 .fp8e4m3) (x5 : Vec F S1x768x6 .f32) (x6 : Vec F S1x6x768x96 .fp8e4m3) (x7 : Vec F S1x768x6 .f32) (x8 : Vec F S1x30x112 .i32) (x9 : Vec F S1x30x320 .i32) (x11 : Vec F S6x128x128 .i32) (x12 : Vec F S6x128x128 .i32) (x13 : Vec F S768x256 .i32) (x14 : Vec F S6x768x128 .f32) (x15 : Vec F S6x768x128 .f32) (x16 : Vec F S6x96x768 .bf16) (x17 : Vec F S2880x256 .bf16) :
    Σ' (L10 : List (View.Piece (Elt F) S1x256x2880 .bf16)) (L13 : List (View.Piece (Elt F) S768x256 .i32)), { L17 : List (View.Piece (Elt F) S2880x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ owns (c : Thread nD τ) arg14 fullShare x14 ∗ owns (c : Thread nD τ) arg15 fullShare x15 ∗ owns (c : Thread nD τ) arg16 fullShare x16 ∗ (∃ f, arg17.view.loc (c : Thread nD τ) ↦[arg17.view.set]{fullShare} arg17.view.writes (Elt F) f L17)) -∗ K ⟨⟩))
          ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0__attention_kernel_eq_skeleton]; unfold cc0__attention_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact hc1 | sl_exact hc2 | sl_exact hc3 | sl_exact hc4)
    sl_step
    iapply Hk
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      · ipureintro; exact harg8.read_unread _
      iexact H8
    isplitl [H9]
    · iexists _; isplitr
      · ipureintro; exact harg9.read_unread _
      iexact H9
    isplitl [H10]
    · iexists _; iexact H10
    isplitl [H11]
    · iexists _; isplitr
      · ipureintro; exact harg11.read_unread _
      iexact H11
    isplitl [H12]
    · iexists _; isplitr
      · ipureintro; exact harg12.read_unread _
      iexact H12
    isplitl [H13]
    · iexists _; iexact H13
    isplitl [H14]
    · iexists _; isplitr
      · ipureintro; exact harg14.read_unread _
      iexact H14
    isplitl [H15]
    · iexists _; isplitr
      · ipureintro; exact harg15.read_unread _
      iexact H15
    isplitl [H16]
    · iexists _; isplitr
      · ipureintro; exact harg16.read_unread _
      iexact H16
    iexists _; iexact H17

end Cert.Kernel.Run

end
-- ==== Proof.KernelFrame.lean ====
module

public import proofs.«01_k».proof.Proof.KernelRunC
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

/-- This branch is taken at each batch's first block. -/
theorem first_iff : ∀ t : Fin cfg0.N, k0_first (grid0.coords t) ↔ t.val % 3 = 0 :=
  (fun t => by
    have ht : t.val < 6 := Nat.lt_of_lt_of_eq t.isLt N_0
    have e1 : (grid0.coords t 1).val = t.val / 1 % 3 := Pipeline.Grid.coords_val t 1 (by decide) rfl
    simp only [k0_first, e1]
    word_cmp
   : ∀ t : Fin grid0.N, k0_first (grid0.coords t) ↔ t.val % 3 = 0)
/-- This branch is taken at each batch's first block. -/
theorem cond2_iff : ∀ t : Fin cfg0.N, k0_cond2 (grid0.coords t) = 1#1 ↔ t.val % 3 = 0 :=
  (fun t => by
    have ht : t.val < 6 := Nat.lt_of_lt_of_eq t.isLt N_0
    have e1 : (grid0.coords t 1).val = t.val / 1 % 3 := Pipeline.Grid.coords_val t 1 (by decide) rfl
    simp only [k0_cond2, e1]
    word_cmp
   : ∀ t : Fin grid0.N, k0_cond2 (grid0.coords t) = 1#1 ↔ t.val % 3 = 0)
/-- This branch is taken at each batch's second block. -/
theorem cond3_iff : ∀ t : Fin cfg0.N, k0_cond3 (grid0.coords t) = 1#1 ↔ t.val % 3 = 1 :=
  (fun t => by
    have ht : t.val < 6 := Nat.lt_of_lt_of_eq t.isLt N_0
    have e1 : (grid0.coords t 1).val = t.val / 1 % 3 := Pipeline.Grid.coords_val t 1 (by decide) rfl
    simp only [k0_cond3, e1]
    word_cmp
   : ∀ t : Fin grid0.N, k0_cond3 (grid0.coords t) = 1#1 ↔ t.val % 3 = 1)
/-- This branch is taken at each batch's third block. -/
theorem cond4_iff : ∀ t : Fin cfg0.N, k0_cond4 (grid0.coords t) = 1#1 ↔ t.val % 3 = 2 :=
  (fun t => by
    have ht : t.val < 6 := Nat.lt_of_lt_of_eq t.isLt N_0
    have e1 : (grid0.coords t 1).val = t.val / 1 % 3 := Pipeline.Grid.coords_val t 1 (by decide) rfl
    simp only [k0_cond4, e1]
    word_cmp
   : ∀ t : Fin grid0.N, k0_cond4 (grid0.coords t) = 1#1 ↔ t.val % 3 = 2)

/-! ## The staging buffers and the scratch as the body gets them -/

abbrev ms0 (t : Fin cfg0.N) : Memref sig .tc .vmem S1x30x256x96 .fp8e4m3 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x30x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x6x768x96 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x768x6 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x6x768x96 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x768x6 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x30x112 .i32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x30x320 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256x2880 .bf16 := win0_8.stage (cfg0.slots t 8)
abbrev hs8 (t : Fin cfg0.N) : (ms8 t).IsWhole := hstage0_8 ((cfg0.slots t 8).cast nbuf0_8)
abbrev sc11 : Memref sig .tc .vmem S6x128x128 .i32 := Memref.whole cc0_scratch0
abbrev sc12 : Memref sig .tc .vmem S6x128x128 .i32 := Memref.whole cc0_scratch1
abbrev sc13 : Memref sig .tc .vmem S768x256 .i32 := Memref.whole cc0_scratch2
abbrev sc14 : Memref sig .tc .vmem S6x768x128 .f32 := Memref.whole cc0_scratch3
abbrev sc15 : Memref sig .tc .vmem S6x768x128 .f32 := Memref.whole cc0_scratch4
abbrev sc16 : Memref sig .tc .vmem S6x96x768 .bf16 := Memref.whole cc0_scratch5
abbrev sc17 : Memref sig .tc .vmem S2880x256 .bf16 := Memref.whole cc0_scratch6

/-- The region's invariant between points: every scratch buffer whole at some contents, and the generator register. -/
theorem PhiA_eq (c : Dev nD) :
    (Pipeline.ΦA spec0 c : sProp 𝕄)
      = iprop(iprop((∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d) ∗ (∃ d, owns (c : Thread nD τ) sc16 fullShare d) ∗ (∃ d, owns (c : Thread nD τ) sc17 fullShare d)) ∗ (∃ r, prngReg c r)) := by
  unfold Pipeline.ΦA; rw [scopedRest0_eq]; simp only [sc11, sc12, sc13, sc14, sc15, sc16, sc17, owns_whole]; try rfl

/-- A buffer some pieces were stored into is owned at some contents. -/
theorem some_owns {sp : Space} {s : Shape} {e : EltTy} (c : Dev nD) (M : Memref sig .tc sp s e) (L : List (View.Piece (Elt F) s e)) :
    iprop(∃ f, M.view.loc (c : Thread nD τ) ↦[M.view.set]{fullShare} M.view.writes (Elt F) f L)
      ⊢ (iprop(∃ d, owns (c : Thread nD τ) M fullShare d) : sProp 𝕄) := by
  iintro ⟨%f, H⟩
  iexists M.view.read (Elt F) (M.view.writes (Elt F) f L)
  unfold owns
  iexists _; isplitr
  · ipureintro; rfl
  iexact H

/-- The body at one point, nothing said of what it writes: the input buffers hold the blocks `x·` and keep them,
    the output's buffer and the scratch hold something before and after. -/
theorem body_runs (c : Dev nD) (t : Fin cfg0.N)
    (x2 : Vec F S1x30x256x96 .fp8e4m3) (x3 : Vec F S1x30x256 .f32) (x4 : Vec F S1x6x768x96 .fp8e4m3) (x5 : Vec F S1x768x6 .f32) (x6 : Vec F S1x6x768x96 .fp8e4m3) (x7 : Vec F S1x768x6 .f32) (x8 : Vec F S1x30x112 .i32) (x9 : Vec F S1x30x320 .i32) (K : PUnit → sProp 𝕄) :
    iprop(owns (c : Thread nD τ) (ms0 t) fullShare x2 ∗ owns (c : Thread nD τ) (ms1 t) fullShare x3 ∗ owns (c : Thread nD τ) (ms2 t) fullShare x4 ∗ owns (c : Thread nD τ) (ms3 t) fullShare x5 ∗ owns (c : Thread nD τ) (ms4 t) fullShare x6 ∗ owns (c : Thread nD τ) (ms5 t) fullShare x7 ∗ owns (c : Thread nD τ) (ms6 t) fullShare x8 ∗ owns (c : Thread nD τ) (ms7 t) fullShare x9 ∗ (∃ d, owns (c : Thread nD τ) (ms8 t) fullShare d)
        ∗ (∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d) ∗ (∃ d, owns (c : Thread nD τ) sc16 fullShare d) ∗ (∃ d, owns (c : Thread nD τ) sc17 fullShare d)
        ∗ (iprop(owns (c : Thread nD τ) (ms0 t) fullShare x2 ∗ owns (c : Thread nD τ) (ms1 t) fullShare x3 ∗ owns (c : Thread nD τ) (ms2 t) fullShare x4 ∗ owns (c : Thread nD τ) (ms3 t) fullShare x5 ∗ owns (c : Thread nD τ) (ms4 t) fullShare x6 ∗ owns (c : Thread nD τ) (ms5 t) fullShare x7 ∗ owns (c : Thread nD τ) (ms6 t) fullShare x8 ∗ owns (c : Thread nD τ) (ms7 t) fullShare x9 ∗ (∃ d, owns (c : Thread nD τ) (ms8 t) fullShare d)
        ∗ (∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d) ∗ (∃ d, owns (c : Thread nD τ) sc16 fullShare d) ∗ (∃ d, owns (c : Thread nD τ) sc17 fullShare d)) -∗ K ⟨⟩))
      ⊢ wp frame (wpE (defs₀ (F := F)) Variants.none c none) Set.univ (bodyAt0 t) K := by
  unfold bodyAt0
  have ht : t.val % 3 = 0 ∨ t.val % 3 = 1 ∨ t.val % 3 = 2 := by omega
  iintro ⟨H2, H3, H4, H5, H6, H7, H8, H9, H10, ⟨%x11, H11⟩, ⟨%x12, H12⟩, ⟨%x13, H13⟩, ⟨%x14, H14⟩, ⟨%x15, H15⟩, ⟨%x16, H16⟩, ⟨%x17, H17⟩, Hk⟩
  rcases ht with ht | ht | ht
  · obtain ⟨L10, L11, L12, L13, L14, L15, L16, L17, hrun⟩ := runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _)
      ((first_iff t).mpr ht) ((cond2_iff t).mpr ht) (fun h => by have := (cond3_iff t).mp h; omega) (fun h => by have := (cond4_iff t).mp h; omega)
      x2 x3 x4 x5 x6 x7 x8 x9 x11 x12 x13 x14 x15 x16 x17
    iapply hrun Set.univ K
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply some_owns c (ms8 t) L10; iexact H10
    isplitl [H11]; · iapply some_owns c sc11 L11; iexact H11
    isplitl [H12]; · iapply some_owns c sc12 L12; iexact H12
    isplitl [H13]; · iapply some_owns c sc13 L13; iexact H13
    isplitl [H14]; · iapply some_owns c sc14 L14; iexact H14
    isplitl [H15]; · iapply some_owns c sc15 L15; iexact H15
    isplitl [H16]; · iapply some_owns c sc16 L16; iexact H16
    iapply some_owns c sc17 L17; iexact H17
  · obtain ⟨L10, L13, L17, hrun⟩ := runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _)
      (fun h => by have := (first_iff t).mp h; omega) (fun h => by have := (cond2_iff t).mp h; omega) ((cond3_iff t).mpr ht) (fun h => by have := (cond4_iff t).mp h; omega)
      x2 x3 x4 x5 x6 x7 x8 x9 x11 x12 x13 x14 x15 x16 x17
    iapply hrun Set.univ K
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply some_owns c (ms8 t) L10; iexact H10
    isplitl [H11]; · iexists _; iexact H11
    isplitl [H12]; · iexists _; iexact H12
    isplitl [H13]; · iapply some_owns c sc13 L13; iexact H13
    isplitl [H14]; · iexists _; iexact H14
    isplitl [H15]; · iexists _; iexact H15
    isplitl [H16]; · iexists _; iexact H16
    iapply some_owns c sc17 L17; iexact H17
  · obtain ⟨L10, L13, L17, hrun⟩ := runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _)
      (fun h => by have := (first_iff t).mp h; omega) (fun h => by have := (cond2_iff t).mp h; omega) (fun h => by have := (cond3_iff t).mp h; omega) ((cond4_iff t).mpr ht)
      x2 x3 x4 x5 x6 x7 x8 x9 x11 x12 x13 x14 x15 x16 x17
    iapply hrun Set.univ K
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply some_owns c (ms8 t) L10; iexact H10
    isplitl [H11]; · iexists _; iexact H11
    isplitl [H12]; · iexists _; iexact H12
    isplitl [H13]; · iapply some_owns c sc13 L13; iexact H13
    isplitl [H14]; · iexists _; iexact H14
    isplitl [H15]; · iexists _; iexact H15
    isplitl [H16]; · iexists _; iexact H16
    iapply some_owns c sc17 L17; iexact H17

/-! ## The proof data, nothing said of the output -/

/-- Every input's buffer at its block of the array the region finds; the scratch at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun _ => Classical.choice inferInstance
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The window nothing is said of: the output's. -/
def fgt : Fin cfg0.W → Bool := fun w => w.val == 8

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare d))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, after_0, after_1, after_2, after_3, after_4, after_5, after_6, after_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  iintro ⟨⟨⟨S11, S12, S13, S14, S15, S16, S17⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply body_runs c t (iblk m c 0 t) (iblk m c 1 t) (iblk m c 2 t) (iblk m c 3 t) (iblk m c 4 t) (iblk m c 5 t) (iblk m c 6 t) (iblk m c 7 t) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S11]; · iexact S11
  isplitl [S12]; · iexact S12
  isplitl [S13]; · iexact S13
  isplitl [S14]; · iexact S14
  isplitl [S15]; · iexact S15
  isplitl [S16]; · iexact S16
  isplitl [S17]; · iexact S17
  iintro ⟨H0, H1, H2, H3, H4, H5, H6, H7, H8, S11, S12, S13, S14, S15, S16, S17⟩
  isplitl [S11 S12 S13 S14 S15 S16 S17 Hg]
  · isplitl [S11 S12 S13 S14 S15 S16 S17]
    · isplitl [S11]; · iexact S11
      isplitl [S12]; · iexact S12
      isplitl [S13]; · iexact S13
      isplitl [S14]; · iexact S14
      isplitl [S15]; · iexact S15
      isplitl [S16]; · iexact S16
      iexact S17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The body's obligation at every point, the output forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: it ends, every input array as the region found it, every semaphore counter at zero. -/
theorem run_main : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every fair execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 3 rfl).trans ((A_eq m c 3).trans (V_main_arg3 m c)),
      ((h.1 c).2 main_arg4 (Pipeline.mem_restRefs_of main_arg4 (by decide) (by decide))).trans (V_main_arg4 m c),
      (h.1.arr_in c 5 rfl).trans ((A_eq m c 5).trans (V_main_arg5 m c)),
      (h.1.arr_in c 6 rfl).trans ((A_eq m c 6).trans (V_main_arg6 m c)),
      (h.1.arr_in c 7 rfl).trans ((A_eq m c 7).trans (V_main_arg7 m c))⟩, h.2⟩) (run_main m ρ)

end Cert.Kernel.Run

end
-- ==== Proof.KernelIdealRunA.lean ====
module

public import proofs.«01_k».proof.Proof.Gen.KernelIdeal.Frame
public import proofs.«01_k».proof.Proof.Gen.KernelIdeal.Loops

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The first grid axis is at the batch's first query block. -/
abbrev k0_first (i : grid0.Coords) : Prop :=
  (Scalar.cmpi .ne (Scalar.extui (Scalar.cmpi .eq (BitVec.ofNat 32 (i 1).val) 0#32)) 0#32) = 1#1

set_option maxHeartbeats 40000000 in
/-- The body's run in case A (the first of a batch's three blocks: the tables are built, then 256 keys): from the inputs' buffers and the scratch at stated
    contents (`x·`) and the output's at anything it runs to its end, and gives back the inputs as they were and each
    buffer it stored into with the pieces it stored (last first). The pieces are the witness. -/
def runA (c : Dev nD) (i : grid0.Coords) (arg2 : Memref sig .tc .vmem S1x30x256x96 .fp8e4m3) (harg2 : arg2.IsWhole) (arg3 : Memref sig .tc .vmem S1x30x256 .f32) (harg3 : arg3.IsWhole) (arg4 : Memref sig .tc .vmem S1x6x768x96 .fp8e4m3) (harg4 : arg4.IsWhole) (arg5 : Memref sig .tc .vmem S1x768x6 .f32) (harg5 : arg5.IsWhole) (arg6 : Memref sig .tc .vmem S1x6x768x96 .fp8e4m3) (harg6 : arg6.IsWhole) (arg7 : Memref sig .tc .vmem S1x768x6 .f32) (harg7 : arg7.IsWhole) (arg8 : Memref sig .tc .vmem S1x30x112 .i32) (harg8 : arg8.IsWhole) (arg9 : Memref sig .tc .vmem S1x30x320 .i32) (harg9 : arg9.IsWhole) (arg10 : Memref sig .tc .vmem S1x256x2880 .bf16) (harg10 : arg10.IsWhole) (arg11 : Memref sig .tc .vmem S6x128x128 .i32) (harg11 : arg11.IsWhole) (arg12 : Memref sig .tc .vmem S6x128x128 .i32) (harg12 : arg12.IsWhole) (arg13 : Memref sig .tc .vmem S768x256 .i32) (harg13 : arg13.IsWhole) (arg14 : Memref sig .tc .vmem S6x768x128 .f32) (harg14 : arg14.IsWhole) (arg15 : Memref sig .tc .vmem S6x768x128 .f32) (harg15 : arg15.IsWhole) (arg16 : Memref sig .tc .vmem S6x96x768 .bf16) (harg16 : arg16.IsWhole) (arg17 : Memref sig .tc .vmem S2880x256 .bf16) (harg17 : arg17.IsWhole)
    (hc1 : k0_first i) (hc2 : k0_cond2 i = 1#1) (hc3 : ¬k0_cond3 i = 1#1) (hc4 : ¬k0_cond4 i = 1#1)
    (x2 : Vec F S1x30x256x96 .fp8e4m3) (x3 : Vec F S1x30x256 .f32) (x4 : Vec F S1x6x768x96 .fp8e4m3) (x5 : Vec F S1x768x6 .f32) (x6 : Vec F S1x6x768x96 .fp8e4m3) (x7 : Vec F S1x768x6 .f32) (x8 : Vec F S1x30x112 .i32) (x9 : Vec F S1x30x320 .i32) (x11 : Vec F S6x128x128 .i32) (x12 : Vec F S6x128x128 .i32) (x13 : Vec F S768x256 .i32) (x14 : Vec F S6x768x128 .f32) (x15 : Vec F S6x768x128 .f32) (x16 : Vec F S6x96x768 .bf16) (x17 : Vec F S2880x256 .bf16) :
    Σ' (L10 : List (View.Piece (Elt F) S1x256x2880 .bf16)) (L11 : List (View.Piece (Elt F) S6x128x128 .i32)) (L12 : List (View.Piece (Elt F) S6x128x128 .i32)) (L13 : List (View.Piece (Elt F) S768x256 .i32)) (L14 : List (View.Piece (Elt F) S6x768x128 .f32)) (L15 : List (View.Piece (Elt F) S6x768x128 .f32)) (L16 : List (View.Piece (Elt F) S6x96x768 .bf16)), { L17 : List (View.Piece (Elt F) S2880x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, ?_, fun E K => ?run⟩
  case run =>
    simp only [cc0__attention_kernel_eq_skeleton]; unfold cc0__attention_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact hc1 | sl_exact hc2 | sl_exact hc3 | sl_exact hc4)
    sl_step
    iapply Hk
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      · ipureintro; exact harg8.read_unread _
      iexact H8
    isplitl [H9]
    · iexists _; isplitr
      · ipureintro; exact harg9.read_unread _
      iexact H9
    isplitl [H10]
    · iexists _; iexact H10
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    iexists _; iexact H17

end Cert.KernelIdeal.Run

end
-- ==== Proof.KernelIdealRunB.lean ====
module

public import proofs.«01_k».proof.Proof.KernelIdealRunA

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 40000000 in
/-- The body's run in case B (the second block of a batch: 512 keys): from the inputs' buffers and the scratch at stated
    contents (`x·`) and the output's at anything it runs to its end, and gives back the inputs as they were and each
    buffer it stored into with the pieces it stored (last first). The pieces are the witness. -/
def runB (c : Dev nD) (i : grid0.Coords) (arg2 : Memref sig .tc .vmem S1x30x256x96 .fp8e4m3) (harg2 : arg2.IsWhole) (arg3 : Memref sig .tc .vmem S1x30x256 .f32) (harg3 : arg3.IsWhole) (arg4 : Memref sig .tc .vmem S1x6x768x96 .fp8e4m3) (harg4 : arg4.IsWhole) (arg5 : Memref sig .tc .vmem S1x768x6 .f32) (harg5 : arg5.IsWhole) (arg6 : Memref sig .tc .vmem S1x6x768x96 .fp8e4m3) (harg6 : arg6.IsWhole) (arg7 : Memref sig .tc .vmem S1x768x6 .f32) (harg7 : arg7.IsWhole) (arg8 : Memref sig .tc .vmem S1x30x112 .i32) (harg8 : arg8.IsWhole) (arg9 : Memref sig .tc .vmem S1x30x320 .i32) (harg9 : arg9.IsWhole) (arg10 : Memref sig .tc .vmem S1x256x2880 .bf16) (harg10 : arg10.IsWhole) (arg11 : Memref sig .tc .vmem S6x128x128 .i32) (harg11 : arg11.IsWhole) (arg12 : Memref sig .tc .vmem S6x128x128 .i32) (harg12 : arg12.IsWhole) (arg13 : Memref sig .tc .vmem S768x256 .i32) (harg13 : arg13.IsWhole) (arg14 : Memref sig .tc .vmem S6x768x128 .f32) (harg14 : arg14.IsWhole) (arg15 : Memref sig .tc .vmem S6x768x128 .f32) (harg15 : arg15.IsWhole) (arg16 : Memref sig .tc .vmem S6x96x768 .bf16) (harg16 : arg16.IsWhole) (arg17 : Memref sig .tc .vmem S2880x256 .bf16) (harg17 : arg17.IsWhole)
    (hc1 : ¬k0_first i) (hc2 : ¬k0_cond2 i = 1#1) (hc3 : k0_cond3 i = 1#1) (hc4 : ¬k0_cond4 i = 1#1)
    (x2 : Vec F S1x30x256x96 .fp8e4m3) (x3 : Vec F S1x30x256 .f32) (x4 : Vec F S1x6x768x96 .fp8e4m3) (x5 : Vec F S1x768x6 .f32) (x6 : Vec F S1x6x768x96 .fp8e4m3) (x7 : Vec F S1x768x6 .f32) (x8 : Vec F S1x30x112 .i32) (x9 : Vec F S1x30x320 .i32) (x11 : Vec F S6x128x128 .i32) (x12 : Vec F S6x128x128 .i32) (x13 : Vec F S768x256 .i32) (x14 : Vec F S6x768x128 .f32) (x15 : Vec F S6x768x128 .f32) (x16 : Vec F S6x96x768 .bf16) (x17 : Vec F S2880x256 .bf16) :
    Σ' (L10 : List (View.Piece (Elt F) S1x256x2880 .bf16)) (L13 : List (View.Piece (Elt F) S768x256 .i32)), { L17 : List (View.Piece (Elt F) S2880x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ owns (c : Thread nD τ) arg14 fullShare x14 ∗ owns (c : Thread nD τ) arg15 fullShare x15 ∗ owns (c : Thread nD τ) arg16 fullShare x16 ∗ (∃ f, arg17.view.loc (c : Thread nD τ) ↦[arg17.view.set]{fullShare} arg17.view.writes (Elt F) f L17)) -∗ K ⟨⟩))
          ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0__attention_kernel_eq_skeleton]; unfold cc0__attention_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact hc1 | sl_exact hc2 | sl_exact hc3 | sl_exact hc4)
    sl_step
    iapply Hk
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      · ipureintro; exact harg8.read_unread _
      iexact H8
    isplitl [H9]
    · iexists _; isplitr
      · ipureintro; exact harg9.read_unread _
      iexact H9
    isplitl [H10]
    · iexists _; iexact H10
    isplitl [H11]
    · iexists _; isplitr
      · ipureintro; exact harg11.read_unread _
      iexact H11
    isplitl [H12]
    · iexists _; isplitr
      · ipureintro; exact harg12.read_unread _
      iexact H12
    isplitl [H13]
    · iexists _; iexact H13
    isplitl [H14]
    · iexists _; isplitr
      · ipureintro; exact harg14.read_unread _
      iexact H14
    isplitl [H15]
    · iexists _; isplitr
      · ipureintro; exact harg15.read_unread _
      iexact H15
    isplitl [H16]
    · iexists _; isplitr
      · ipureintro; exact harg16.read_unread _
      iexact H16
    iexists _; iexact H17

end Cert.KernelIdeal.Run

end
-- ==== Proof.KernelIdealRunC.lean ====
module

public import proofs.«01_k».proof.Proof.KernelIdealRunB

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 40000000 in
/-- The body's run in case C (the third block of a batch: 768 keys): from the inputs' buffers and the scratch at stated
    contents (`x·`) and the output's at anything it runs to its end, and gives back the inputs as they were and each
    buffer it stored into with the pieces it stored (last first). The pieces are the witness. -/
def runC (c : Dev nD) (i : grid0.Coords) (arg2 : Memref sig .tc .vmem S1x30x256x96 .fp8e4m3) (harg2 : arg2.IsWhole) (arg3 : Memref sig .tc .vmem S1x30x256 .f32) (harg3 : arg3.IsWhole) (arg4 : Memref sig .tc .vmem S1x6x768x96 .fp8e4m3) (harg4 : arg4.IsWhole) (arg5 : Memref sig .tc .vmem S1x768x6 .f32) (harg5 : arg5.IsWhole) (arg6 : Memref sig .tc .vmem S1x6x768x96 .fp8e4m3) (harg6 : arg6.IsWhole) (arg7 : Memref sig .tc .vmem S1x768x6 .f32) (harg7 : arg7.IsWhole) (arg8 : Memref sig .tc .vmem S1x30x112 .i32) (harg8 : arg8.IsWhole) (arg9 : Memref sig .tc .vmem S1x30x320 .i32) (harg9 : arg9.IsWhole) (arg10 : Memref sig .tc .vmem S1x256x2880 .bf16) (harg10 : arg10.IsWhole) (arg11 : Memref sig .tc .vmem S6x128x128 .i32) (harg11 : arg11.IsWhole) (arg12 : Memref sig .tc .vmem S6x128x128 .i32) (harg12 : arg12.IsWhole) (arg13 : Memref sig .tc .vmem S768x256 .i32) (harg13 : arg13.IsWhole) (arg14 : Memref sig .tc .vmem S6x768x128 .f32) (harg14 : arg14.IsWhole) (arg15 : Memref sig .tc .vmem S6x768x128 .f32) (harg15 : arg15.IsWhole) (arg16 : Memref sig .tc .vmem S6x96x768 .bf16) (harg16 : arg16.IsWhole) (arg17 : Memref sig .tc .vmem S2880x256 .bf16) (harg17 : arg17.IsWhole)
    (hc1 : ¬k0_first i) (hc2 : ¬k0_cond2 i = 1#1) (hc3 : ¬k0_cond3 i = 1#1) (hc4 : k0_cond4 i = 1#1)
    (x2 : Vec F S1x30x256x96 .fp8e4m3) (x3 : Vec F S1x30x256 .f32) (x4 : Vec F S1x6x768x96 .fp8e4m3) (x5 : Vec F S1x768x6 .f32) (x6 : Vec F S1x6x768x96 .fp8e4m3) (x7 : Vec F S1x768x6 .f32) (x8 : Vec F S1x30x112 .i32) (x9 : Vec F S1x30x320 .i32) (x11 : Vec F S6x128x128 .i32) (x12 : Vec F S6x128x128 .i32) (x13 : Vec F S768x256 .i32) (x14 : Vec F S6x768x128 .f32) (x15 : Vec F S6x768x128 .f32) (x16 : Vec F S6x96x768 .bf16) (x17 : Vec F S2880x256 .bf16) :
    Σ' (L10 : List (View.Piece (Elt F) S1x256x2880 .bf16)) (L13 : List (View.Piece (Elt F) S768x256 .i32)), { L17 : List (View.Piece (Elt F) S2880x256 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg11 fullShare x11 ∗ owns (c : Thread nD τ) arg12 fullShare x12 ∗ (∃ f, arg13.view.loc (c : Thread nD τ) ↦[arg13.view.set]{fullShare} arg13.view.writes (Elt F) f L13) ∗ owns (c : Thread nD τ) arg14 fullShare x14 ∗ owns (c : Thread nD τ) arg15 fullShare x15 ∗ owns (c : Thread nD τ) arg16 fullShare x16 ∗ (∃ f, arg17.view.loc (c : Thread nD τ) ↦[arg17.view.set]{fullShare} arg17.view.writes (Elt F) f L17)) -∗ K ⟨⟩))
          ⊢ wp frame (wpE (defs₀ (F := F)) Variants.none c none) E (cc0__attention_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0__attention_kernel_eq_skeleton]; unfold cc0__attention_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17
    sl_exec (disch := first | sl_exact hc1 | sl_exact hc2 | sl_exact hc3 | sl_exact hc4)
    sl_step
    iapply Hk
    isplitl [H2]
    · iexists _; isplitr
      · ipureintro; exact harg2.read_unread _
      iexact H2
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      · ipureintro; exact harg8.read_unread _
      iexact H8
    isplitl [H9]
    · iexists _; isplitr
      · ipureintro; exact harg9.read_unread _
      iexact H9
    isplitl [H10]
    · iexists _; iexact H10
    isplitl [H11]
    · iexists _; isplitr
      · ipureintro; exact harg11.read_unread _
      iexact H11
    isplitl [H12]
    · iexists _; isplitr
      · ipureintro; exact harg12.read_unread _
      iexact H12
    isplitl [H13]
    · iexists _; iexact H13
    isplitl [H14]
    · iexists _; isplitr
      · ipureintro; exact harg14.read_unread _
      iexact H14
    isplitl [H15]
    · iexists _; isplitr
      · ipureintro; exact harg15.read_unread _
      iexact H15
    isplitl [H16]
    · iexists _; isplitr
      · ipureintro; exact harg16.read_unread _
      iexact H16
    iexists _; iexact H17

end Cert.KernelIdeal.Run

end
-- ==== Proof.KernelIdealFrame.lean ====
module

public import proofs.«01_k».proof.Proof.KernelIdealRunC
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which case a point is in -/

/-- This branch is taken at each batch's first block. -/
theorem first_iff : ∀ t : Fin cfg0.N, k0_first (grid0.coords t) ↔ t.val % 3 = 0 :=
  (fun t => by
    have ht : t.val < 6 := Nat.lt_of_lt_of_eq t.isLt N_0
    have e1 : (grid0.coords t 1).val = t.val / 1 % 3 := Pipeline.Grid.coords_val t 1 (by decide) rfl
    simp only [k0_first, e1]
    word_cmp
   : ∀ t : Fin grid0.N, k0_first (grid0.coords t) ↔ t.val % 3 = 0)
/-- This branch is taken at each batch's first block. -/
theorem cond2_iff : ∀ t : Fin cfg0.N, k0_cond2 (grid0.coords t) = 1#1 ↔ t.val % 3 = 0 :=
  (fun t => by
    have ht : t.val < 6 := Nat.lt_of_lt_of_eq t.isLt N_0
    have e1 : (grid0.coords t 1).val = t.val / 1 % 3 := Pipeline.Grid.coords_val t 1 (by decide) rfl
    simp only [k0_cond2, e1]
    word_cmp
   : ∀ t : Fin grid0.N, k0_cond2 (grid0.coords t) = 1#1 ↔ t.val % 3 = 0)
/-- This branch is taken at each batch's second block. -/
theorem cond3_iff : ∀ t : Fin cfg0.N, k0_cond3 (grid0.coords t) = 1#1 ↔ t.val % 3 = 1 :=
  (fun t => by
    have ht : t.val < 6 := Nat.lt_of_lt_of_eq t.isLt N_0
    have e1 : (grid0.coords t 1).val = t.val / 1 % 3 := Pipeline.Grid.coords_val t 1 (by decide) rfl
    simp only [k0_cond3, e1]
    word_cmp
   : ∀ t : Fin grid0.N, k0_cond3 (grid0.coords t) = 1#1 ↔ t.val % 3 = 1)
/-- This branch is taken at each batch's third block. -/
theorem cond4_iff : ∀ t : Fin cfg0.N, k0_cond4 (grid0.coords t) = 1#1 ↔ t.val % 3 = 2 :=
  (fun t => by
    have ht : t.val < 6 := Nat.lt_of_lt_of_eq t.isLt N_0
    have e1 : (grid0.coords t 1).val = t.val / 1 % 3 := Pipeline.Grid.coords_val t 1 (by decide) rfl
    simp only [k0_cond4, e1]
    word_cmp
   : ∀ t : Fin grid0.N, k0_cond4 (grid0.coords t) = 1#1 ↔ t.val % 3 = 2)

/-! ## The staging buffers and the scratch as the body gets them -/

abbrev ms0 (t : Fin cfg0.N) : Memref sig .tc .vmem S1x30x256x96 .fp8e4m3 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x30x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x6x768x96 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x768x6 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x6x768x96 .fp8e4m3 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x768x6 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x30x112 .i32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x30x320 .i32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x256x2880 .bf16 := win0_8.stage (cfg0.slots t 8)
abbrev hs8 (t : Fin cfg0.N) : (ms8 t).IsWhole := hstage0_8 ((cfg0.slots t 8).cast nbuf0_8)
abbrev sc11 : Memref sig .tc .vmem S6x128x128 .i32 := Memref.whole cc0_scratch0
abbrev sc12 : Memref sig .tc .vmem S6x128x128 .i32 := Memref.whole cc0_scratch1
abbrev sc13 : Memref sig .tc .vmem S768x256 .i32 := Memref.whole cc0_scratch2
abbrev sc14 : Memref sig .tc .vmem S6x768x128 .f32 := Memref.whole cc0_scratch3
abbrev sc15 : Memref sig .tc .vmem S6x768x128 .f32 := Memref.whole cc0_scratch4
abbrev sc16 : Memref sig .tc .vmem S6x96x768 .bf16 := Memref.whole cc0_scratch5
abbrev sc17 : Memref sig .tc .vmem S2880x256 .bf16 := Memref.whole cc0_scratch6

/-- The region's invariant between points: every scratch buffer whole at some contents, and the generator register. -/
theorem PhiA_eq (c : Dev nD) :
    (Pipeline.ΦA spec0 c : sProp 𝕄)
      = iprop(iprop((∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d) ∗ (∃ d, owns (c : Thread nD τ) sc16 fullShare d) ∗ (∃ d, owns (c : Thread nD τ) sc17 fullShare d)) ∗ (∃ r, prngReg c r)) := by
  unfold Pipeline.ΦA; rw [scopedRest0_eq]; simp only [sc11, sc12, sc13, sc14, sc15, sc16, sc17, owns_whole]; try rfl

/-- A buffer some pieces were stored into is owned at some contents. -/
theorem some_owns {sp : Space} {s : Shape} {e : EltTy} (c : Dev nD) (M : Memref sig .tc sp s e) (L : List (View.Piece (Elt F) s e)) :
    iprop(∃ f, M.view.loc (c : Thread nD τ) ↦[M.view.set]{fullShare} M.view.writes (Elt F) f L)
      ⊢ (iprop(∃ d, owns (c : Thread nD τ) M fullShare d) : sProp 𝕄) := by
  iintro ⟨%f, H⟩
  iexists M.view.read (Elt F) (M.view.writes (Elt F) f L)
  unfold owns
  iexists _; isplitr
  · ipureintro; rfl
  iexact H

/-- The body at one point, nothing said of what it writes: the input buffers hold the blocks `x·` and keep them,
    the output's buffer and the scratch hold something before and after. -/
theorem body_runs (c : Dev nD) (t : Fin cfg0.N)
    (x2 : Vec F S1x30x256x96 .fp8e4m3) (x3 : Vec F S1x30x256 .f32) (x4 : Vec F S1x6x768x96 .fp8e4m3) (x5 : Vec F S1x768x6 .f32) (x6 : Vec F S1x6x768x96 .fp8e4m3) (x7 : Vec F S1x768x6 .f32) (x8 : Vec F S1x30x112 .i32) (x9 : Vec F S1x30x320 .i32) (K : PUnit → sProp 𝕄) :
    iprop(owns (c : Thread nD τ) (ms0 t) fullShare x2 ∗ owns (c : Thread nD τ) (ms1 t) fullShare x3 ∗ owns (c : Thread nD τ) (ms2 t) fullShare x4 ∗ owns (c : Thread nD τ) (ms3 t) fullShare x5 ∗ owns (c : Thread nD τ) (ms4 t) fullShare x6 ∗ owns (c : Thread nD τ) (ms5 t) fullShare x7 ∗ owns (c : Thread nD τ) (ms6 t) fullShare x8 ∗ owns (c : Thread nD τ) (ms7 t) fullShare x9 ∗ (∃ d, owns (c : Thread nD τ) (ms8 t) fullShare d)
        ∗ (∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d) ∗ (∃ d, owns (c : Thread nD τ) sc16 fullShare d) ∗ (∃ d, owns (c : Thread nD τ) sc17 fullShare d)
        ∗ (iprop(owns (c : Thread nD τ) (ms0 t) fullShare x2 ∗ owns (c : Thread nD τ) (ms1 t) fullShare x3 ∗ owns (c : Thread nD τ) (ms2 t) fullShare x4 ∗ owns (c : Thread nD τ) (ms3 t) fullShare x5 ∗ owns (c : Thread nD τ) (ms4 t) fullShare x6 ∗ owns (c : Thread nD τ) (ms5 t) fullShare x7 ∗ owns (c : Thread nD τ) (ms6 t) fullShare x8 ∗ owns (c : Thread nD τ) (ms7 t) fullShare x9 ∗ (∃ d, owns (c : Thread nD τ) (ms8 t) fullShare d)
        ∗ (∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d) ∗ (∃ d, owns (c : Thread nD τ) sc16 fullShare d) ∗ (∃ d, owns (c : Thread nD τ) sc17 fullShare d)) -∗ K ⟨⟩))
      ⊢ wp frame (wpE (defs₀ (F := F)) Variants.none c none) Set.univ (bodyAt0 t) K := by
  unfold bodyAt0
  have ht : t.val % 3 = 0 ∨ t.val % 3 = 1 ∨ t.val % 3 = 2 := by omega
  iintro ⟨H2, H3, H4, H5, H6, H7, H8, H9, H10, ⟨%x11, H11⟩, ⟨%x12, H12⟩, ⟨%x13, H13⟩, ⟨%x14, H14⟩, ⟨%x15, H15⟩, ⟨%x16, H16⟩, ⟨%x17, H17⟩, Hk⟩
  rcases ht with ht | ht | ht
  · obtain ⟨L10, L11, L12, L13, L14, L15, L16, L17, hrun⟩ := runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _)
      ((first_iff t).mpr ht) ((cond2_iff t).mpr ht) (fun h => by have := (cond3_iff t).mp h; omega) (fun h => by have := (cond4_iff t).mp h; omega)
      x2 x3 x4 x5 x6 x7 x8 x9 x11 x12 x13 x14 x15 x16 x17
    iapply hrun Set.univ K
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply some_owns c (ms8 t) L10; iexact H10
    isplitl [H11]; · iapply some_owns c sc11 L11; iexact H11
    isplitl [H12]; · iapply some_owns c sc12 L12; iexact H12
    isplitl [H13]; · iapply some_owns c sc13 L13; iexact H13
    isplitl [H14]; · iapply some_owns c sc14 L14; iexact H14
    isplitl [H15]; · iapply some_owns c sc15 L15; iexact H15
    isplitl [H16]; · iapply some_owns c sc16 L16; iexact H16
    iapply some_owns c sc17 L17; iexact H17
  · obtain ⟨L10, L13, L17, hrun⟩ := runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _)
      (fun h => by have := (first_iff t).mp h; omega) (fun h => by have := (cond2_iff t).mp h; omega) ((cond3_iff t).mpr ht) (fun h => by have := (cond4_iff t).mp h; omega)
      x2 x3 x4 x5 x6 x7 x8 x9 x11 x12 x13 x14 x15 x16 x17
    iapply hrun Set.univ K
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply some_owns c (ms8 t) L10; iexact H10
    isplitl [H11]; · iexists _; iexact H11
    isplitl [H12]; · iexists _; iexact H12
    isplitl [H13]; · iapply some_owns c sc13 L13; iexact H13
    isplitl [H14]; · iexists _; iexact H14
    isplitl [H15]; · iexists _; iexact H15
    isplitl [H16]; · iexists _; iexact H16
    iapply some_owns c sc17 L17; iexact H17
  · obtain ⟨L10, L13, L17, hrun⟩ := runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _)
      (fun h => by have := (first_iff t).mp h; omega) (fun h => by have := (cond2_iff t).mp h; omega) (fun h => by have := (cond3_iff t).mp h; omega) ((cond4_iff t).mpr ht)
      x2 x3 x4 x5 x6 x7 x8 x9 x11 x12 x13 x14 x15 x16 x17
    iapply hrun Set.univ K
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, H11, H12, H13, H14, H15, H16, H17⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply some_owns c (ms8 t) L10; iexact H10
    isplitl [H11]; · iexists _; iexact H11
    isplitl [H12]; · iexists _; iexact H12
    isplitl [H13]; · iapply some_owns c sc13 L13; iexact H13
    isplitl [H14]; · iexists _; iexact H14
    isplitl [H15]; · iexists _; iexact H15
    isplitl [H16]; · iexists _; iexact H16
    iapply some_owns c sc17 L17; iexact H17

/-! ## The proof data, nothing said of the output -/

/-- Every input's buffer at its block of the array the region finds; the scratch at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun _ => Classical.choice inferInstance
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- The window nothing is said of: the output's. -/
def fgt : Fin cfg0.W → Bool := fun w => w.val == 8

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare d))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ d, owns (c : Thread nD τ) (ms8 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, after_0, after_1, after_2, after_3, after_4, after_5, after_6, after_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  iintro ⟨⟨⟨S11, S12, S13, S14, S15, S16, S17⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  iapply body_runs c t (iblk m c 0 t) (iblk m c 1 t) (iblk m c 2 t) (iblk m c 3 t) (iblk m c 4 t) (iblk m c 5 t) (iblk m c 6 t) (iblk m c 7 t) _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S11]; · iexact S11
  isplitl [S12]; · iexact S12
  isplitl [S13]; · iexact S13
  isplitl [S14]; · iexact S14
  isplitl [S15]; · iexact S15
  isplitl [S16]; · iexact S16
  isplitl [S17]; · iexact S17
  iintro ⟨H0, H1, H2, H3, H4, H5, H6, H7, H8, S11, S12, S13, S14, S15, S16, S17⟩
  isplitl [S11 S12 S13 S14 S15 S16 S17 Hg]
  · isplitl [S11 S12 S13 S14 S15 S16 S17]
    · isplitl [S11]; · iexact S11
      isplitl [S12]; · iexact S12
      isplitl [S13]; · iexact S13
      isplitl [S14]; · iexact S14
      isplitl [S15]; · iexact S15
      isplitl [S16]; · iexact S16
      iexact S17
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

/-- The body's obligation at every point, the output forgotten. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: it ends, every input array as the region found it, every semaphore counter at zero. -/
theorem run_main : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every fair execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (h.1.arr_in c 3 rfl).trans ((A_eq m c 3).trans (V_main_arg3 m c)),
      ((h.1 c).2 main_arg4 (Pipeline.mem_restRefs_of main_arg4 (by decide) (by decide))).trans (V_main_arg4 m c),
      (h.1.arr_in c 5 rfl).trans ((A_eq m c 5).trans (V_main_arg5 m c)),
      (h.1.arr_in c 6 rfl).trans ((A_eq m c 6).trans (V_main_arg6 m c)),
      (h.1.arr_in c 7 rfl).trans ((A_eq m c 7).trans (V_main_arg7 m c))⟩, h.2⟩) (run_main m ρ)

end Cert.KernelIdeal.Run

end
-- ==== Proof.RowMath.lean ====
module

public import Idealize.ShloMosaic.Lib.Claim
public import Idealize.ShloMosaic.PureOps.Ideal.Laws

@[expose] public section

noncomputable section

namespace Cert.Row

open Idealize.ShloMosaic
open scoped Classical

/-- The masked score of a key: the score where the key is allowed, minus infinity elsewhere. -/
def masked (al : ℕ → Prop) (y : ℕ → EReal) (j : ℕ) : EReal := if al j then y j else ⊥

/-- The largest masked score of the first `n` keys. -/
def top (n : ℕ) (al : ℕ → Prop) (y : ℕ → EReal) : EReal :=
  (Finset.univ : Finset (Fin n)).fold max ⊥ (fun j => masked al y j.val)

/-- The exponential of a key's masked score less the largest one, base `e`. -/
def expo (n : ℕ) (al : ℕ → Prop) (y : ℕ → EReal) (j : ℕ) : EReal := Ideal.exp (masked al y j - top n al y)

/-- The same to base two. -/
def expo2 (n : ℕ) (al : ℕ → Prop) (y : ℕ → EReal) (j : ℕ) : EReal := Ideal.exp2 (masked al y j - top n al y)

/-- The reference's attention row: the softmax weights of the first `n` keys (zero where the exponentials add up to
    zero), each times its value scale `w` and its value `v`, added up. -/
def row (n : ℕ) (al : ℕ → Prop) (y w v : ℕ → EReal) : EReal :=
  ∑ j : Fin n, (if 0 < ∑ k : Fin n, expo n al y k.val then Ideal.div (expo n al y j.val) (∑ k : Fin n, expo n al y k.val)
    else 0) * w j.val * v j.val

/-- The kernel's attention row: powers of two, each times one over their sum, times the value scale and the value. -/
def krow (n : ℕ) (al : ℕ → Prop) (y w v : ℕ → EReal) : EReal :=
  ∑ j : Fin n, v j.val * (expo2 n al y j.val * Ideal.div 1 (∑ k : Fin n, expo2 n al y k.val) * w j.val)

theorem top_eq_sup (n : ℕ) (al : ℕ → Prop) (y : ℕ → EReal) :
    top n al y = (Finset.range n).sup (masked al y) := by
  unfold top
  rw [show (Finset.range n).sup (masked al y) = (Finset.univ : Finset (Fin n)).sup (fun j => masked al y j.val) by
    apply le_antisymm
    · refine Finset.sup_le fun j hj => ?_
      exact Finset.le_sup (f := fun j : Fin n => masked al y j.val) (Finset.mem_univ (⟨j, Finset.mem_range.mp hj⟩ : Fin n))
    · exact Finset.sup_le fun j _ => Finset.le_sup (f := masked al y) (Finset.mem_range.mpr j.isLt)]
  rfl

/-- The largest masked score does not change when keys that are not allowed are added. -/
theorem top_prefix {n N : ℕ} (h : n ≤ N) (al : ℕ → Prop) (hal : ∀ j, j < N → al j → j < n) (y : ℕ → EReal) :
    top n al y = top N al y := by
  rw [top_eq_sup, top_eq_sup]
  apply le_antisymm
  · exact Finset.sup_mono (Finset.range_mono h)
  · refine Finset.sup_le fun j hj => ?_
    by_cases hj' : j < n
    · exact Finset.le_sup (f := masked al y) (Finset.mem_range.mpr hj')
    · have : ¬ al j := fun ha => hj' (hal j (Finset.mem_range.mp hj) ha)
      simp [masked, this]

/-- Scaling every score by a positive real scales the masked score. -/
theorem masked_scale (c : ℝ) (hc : 0 < c) (al : ℕ → Prop) (y : ℕ → EReal) (j : ℕ) :
    masked al (fun j => (c : EReal) * y j) j = (c : EReal) * masked al y j := by
  unfold masked
  split
  · rfl
  · exact (EReal.coe_mul_bot_of_pos hc).symm

/-- Scaling every score by a positive real scales the largest one. -/
theorem top_scale (c : ℝ) (hc : 0 < c) (n : ℕ) (al : ℕ → Prop) (y : ℕ → EReal) :
    top n al (fun j => (c : EReal) * y j) = (c : EReal) * top n al y := by
  rw [top_eq_sup, top_eq_sup]
  have hm : Monotone (fun x : EReal => (c : EReal) * x) := fun a b hab =>
    mul_le_mul_of_nonneg_left hab (by exact_mod_cast hc.le)
  rw [Finset.comp_sup_eq_sup_comp (fun x : EReal => (c : EReal) * x) (fun a b => hm.map_sup a b)
    (EReal.coe_mul_bot_of_pos hc)]
  refine Finset.sup_congr rfl fun j _ => masked_scale c hc al y j

/-- Two to the power of `z / log 2` is the exponential of `z`, on every extended real. -/
theorem exp2_scale (z : EReal) : Ideal.exp2 (((Real.log 2)⁻¹ : ℝ) * z) = Ideal.exp z := by
  have h2 : 0 < Real.log 2 := Real.log_pos (by norm_num)
  have hc : 0 < (Real.log 2)⁻¹ := inv_pos.mpr h2
  induction z using EReal.rec with
  | bot => rw [EReal.coe_mul_bot_of_pos hc]; rfl
  | top => rw [EReal.coe_mul_top_of_pos hc]; rfl
  | coe r =>
    rw [← EReal.coe_mul]
    change ((Real.rpow 2 ((Real.log 2)⁻¹ * r) : ℝ) : EReal) = ((Real.exp r : ℝ) : EReal)
    congr 1
    change (2:ℝ) ^ ((Real.log 2)⁻¹ * r) = _
    rw [Real.rpow_def_of_pos (by norm_num), ← mul_assoc, mul_inv_cancel₀ h2.ne', one_mul]

/-- The kernel's exponentials are the reference's. -/
theorem expo2_eq {n N : ℕ} (h : n ≤ N) (al : ℕ → Prop) (hal : ∀ j, j < N → al j → j < n) (y : ℕ → EReal) (j : ℕ) :
    expo2 n al (fun j => (((Real.log 2)⁻¹ : ℝ) : EReal) * y j) j = expo N al y j := by
  have h2 : 0 < Real.log 2 := Real.log_pos (by norm_num)
  have hc : 0 < (Real.log 2)⁻¹ := inv_pos.mpr h2
  unfold expo2 expo
  rw [masked_scale _ hc, top_scale _ hc, top_prefix h al hal, sub_eq_add_neg, ← mul_neg,
    ← EReal.left_distrib_of_nonneg_of_ne_top (by exact_mod_cast hc.le) (EReal.coe_ne_top _), exp2_scale, sub_eq_add_neg]

theorem exp_nonneg (z : EReal) : 0 ≤ Ideal.exp z := by
  induction z using EReal.rec with
  | bot => exact le_rfl
  | top => exact le_top
  | coe r => exact EReal.coe_nonneg.mpr (Real.exp_pos r).le

/-- A key that is not allowed has exponential zero. -/
theorem expo_of_not (n : ℕ) (al : ℕ → Prop) (y : ℕ → EReal) (j : ℕ) (h : ¬ al j) : expo n al y j = 0 := by
  unfold expo masked
  rw [if_neg h, sub_eq_add_neg, EReal.bot_add]; rfl

/-- A sum over the first `N` keys whose terms past `n` are zero is the sum over the first `n`. -/
theorem sum_prefix {n N : ℕ} (h : n ≤ N) (f : ℕ → EReal) (hf : ∀ j, j < N → ¬ j < n → f j = 0) :
    ∑ j : Fin n, f j.val = ∑ j : Fin N, f j.val := by
  rw [Fin.sum_univ_eq_sum_range, Fin.sum_univ_eq_sum_range]
  exact Finset.sum_subset (Finset.range_mono h) fun j hj hj' =>
    hf j (Finset.mem_range.mp hj) (fun hn => hj' (Finset.mem_range.mpr hn))

/-- A weight: the exponential times one over the sum is the exponential divided by the sum, and zero where the sum is. -/
theorem weight_eq (e l : EReal) (he : 0 ≤ e) (hel : e ≤ l) :
    e * Ideal.div 1 l = if 0 < l then Ideal.div e l else 0 := by
  by_cases hl : l = 0
  · subst hl
    have : e = 0 := le_antisymm hel he
    simp [this]
  · have hp : 0 < l := lt_of_le_of_ne (he.trans hel) (Ne.symm hl)
    rw [if_pos hp]
    unfold Ideal.div
    rw [if_neg hl, if_neg hl, one_mul]

/-- THE EQUATION of one attention row: the kernel's row over the first `n` keys at scores scaled by `1 / log 2` is the
    reference's over all `N`, where no key past `n` is allowed. -/
theorem krow_eq_row {n N : ℕ} (h : n ≤ N) (al : ℕ → Prop) (hal : ∀ j, j < N → al j → j < n) (y w v : ℕ → EReal) :
    krow n al (fun j => (((Real.log 2)⁻¹ : ℝ) : EReal) * y j) w v = row N al y w v := by
  unfold krow row
  simp only [expo2_eq h al hal y]
  have hz : ∀ j, j < N → ¬ j < n → expo N al y j = 0 := fun j hj hn =>
    expo_of_not N al y j (fun ha => hn (hal j hj ha))
  rw [sum_prefix h (expo N al y) hz,
    sum_prefix h (fun j => v j * (expo N al y j * Ideal.div 1 (∑ k : Fin N, expo N al y k.val) * w j))
      (fun j hj hn => by simp only [hz j hj hn, zero_mul, mul_zero])]
  refine Finset.sum_congr rfl fun j _ => ?_
  rw [mul_comm (v _), weight_eq (expo N al y j.val) _ (exp_nonneg _) (Finset.single_le_sum (f := fun k : Fin N => expo N al y k.val)
    (fun k _ => exp_nonneg _) (Finset.mem_univ j))]

end Cert.Row

end
-- ==== Proof.Spec.lean ====
module

public import proofs.«01_k».proof.Proof.RowMath

@[expose] public section

noncomputable section

namespace Cert.Spec

open Idealize.ShloMosaic
open Cert.Row

/-- The eight arguments, as functions of their coordinates (over the extended reals the codes are their values). -/
structure Args where
  q : Fin 2 → Fin 768 → Fin 30 → Fin 96 → EReal
  qs : Fin 2 → Fin 768 → Fin 30 → EReal
  k : Fin 2 → Fin 768 → Fin 6 → Fin 96 → EReal
  ks : Fin 2 → Fin 768 → Fin 6 → EReal
  v : Fin 2 → Fin 768 → Fin 6 → Fin 96 → EReal
  vs : Fin 2 → Fin 768 → Fin 6 → EReal
  vert : Fin 2 → Fin 30 → Fin 112 → BitVec 32
  slash : Fin 2 → Fin 30 → Fin 320 → BitVec 32

/-- A function of the 768 positions, as one of the natural numbers (zero past the end). -/
def nat (f : Fin 768 → EReal) (j : ℕ) : EReal := if h : j < 768 then f ⟨j, h⟩ else 0

theorem nat_val (f : Fin 768 → EReal) (j : Fin 768) : nat f j.val = f j := by simp [nat]

/-- The group of key heads a query head reads: five query heads share one. -/
def group (h : Fin 30) : Fin 6 := ⟨h.val / 5, by omega⟩

/-- The scale of the scores, one over the square root of the head's width. -/
def smScale : EReal := (((Real.sqrt 96)⁻¹ : ℝ) : EReal)

variable (A : Args)

/-- The score of query `i` against key `j` in head `h`: the dot product of the codes, times the query's scale times the
    key's scale times `1 / sqrt 96`. -/
def score (b : Fin 2) (h : Fin 30) (i j : Fin 768) : EReal :=
  (∑ d : Fin 96, A.k b j (group h) d * A.q b i h d) * (A.qs b i h * (A.ks b j (group h) * smScale))

/-- Some entry of the head's vertical list is the number `j`. -/
def vertHit (b : Fin 2) (h : Fin 30) (j : ℕ) : Prop := ∃ n, A.vert b h n = BitVec.ofNat 32 j

/-- Some entry of the head's slash list is the number `d`. -/
def slashHit (b : Fin 2) (h : Fin 30) (d : ℕ) : Prop := ∃ n, A.slash b h n = BitVec.ofNat 32 d

/-- Query `i` attends to key `j`: the key is not after the query, and its position is in the head's vertical list or its
    distance in the head's slash list. -/
def allowed (b : Fin 2) (h : Fin 30) (i j : ℕ) : Prop :=
  j ≤ i ∧ (slashHit A b h (i - j) ∨ vertHit A b h j)

/-- The result at batch `b`, query `i`, head `h`, coordinate `d`: the attention row. -/
def out (b : Fin 2) (i : Fin 768) (h : Fin 30) (d : Fin 96) : EReal :=
  row 768 (allowed A b h i.val) (nat (score A b h i)) (nat fun j => A.vs b j (group h)) (nat fun j => A.v b j (group h) d)

end Cert.Spec

end
-- ==== Proof.HeadPay.lean ====
module

public import proofs.«01_k».proof.Proof.Gen.KernelIdeal.Skeleton
public import proofs.«01_k».proof.Proof.Gen.KernelIdeal.Loops
public import proofs.«01_k».proof.Proof.Spec
public import Idealize.ShloMosaic.Lib.Pipeline.ValueKit

@[expose] public section

set_option maxRecDepth 16384

noncomputable section

namespace Cert.KernelIdeal.Head

open Idealize.ShloMosaic Idealize.ShloMosaic.TcCoe Idealize.ShloMosaic.Tactic
open Cert.KernelIdeal Cert.KernelIdeal.Gen
open Cert.Row Cert.Spec

/-- The word of minus infinity is minus infinity. -/
theorem neg_inf : Ideal.ofBits .f32 4286578688#32 = (⊥ : EReal) := by
  simp [Ideal.ofBits, Ideal.ieee]

/-- The masked score as the kernel takes it, by a select on the head's bit of the mask word. -/
def sel (w : BitVec 32) (m : BitVec 32) (x : EReal) : EReal :=
  Scalar.select (IntOp.cmpi .ne (IntOp.andi m w) 0#32) x (Ideal.ofBits .f32 4286578688#32)

theorem sel_eq (w m : BitVec 32) (x : EReal) : sel w m x = if m &&& w ≠ 0#32 then x else ⊥ := by
  unfold sel
  rw [neg_inf]
  unfold Scalar.select IntOp.cmpi IntOp.andi
  by_cases h : m &&& w = 0#32
  · simp [h]
  · have hb : (m &&& w != 0#32) = true := by simpa using h
    simp only [ne_eq, h, not_false_eq_true, if_true, hb]; rfl

/-- What one head's payload computes over `n` keys, with its scores selected: the sum over the keys of value times
    weight times value scale. -/
def rowPay {n : ℕ} (s w v : Fin n → EReal) : EReal :=
  ∑ x, v x * (FloatOps.exp2 (F := Ideal) (φ := .f32) (s x - Finset.fold max (Ideal.ofBits .f32 4286578688#32) s Finset.univ)
    * Ideal.div 1 (∑ x, FloatOps.exp2 (F := Ideal) (φ := .f32) (s x - Finset.fold max (Ideal.ofBits .f32 4286578688#32) s Finset.univ))
    * w x)

/-- The payload is the attention row, where the selected scores are the row's masked scores times `1 / log 2`, and no
    position past the first `n` is allowed. -/
theorem rowPay_eq {n : ℕ} (hn : n ≤ 768) (al : ℕ → Prop) (hal : ∀ j, j < 768 → al j → j < n) (Y W V : ℕ → EReal)
    (s w v : Fin n → EReal)
    (hs : ∀ x : Fin n, s x = masked al (fun j => (((Real.log 2)⁻¹ : ℝ) : EReal) * Y j) x.val)
    (hw : ∀ x, w x = W x.val) (hv : ∀ x, v x = V x.val) : rowPay s w v = row 768 al Y W V := by
  rw [← krow_eq_row hn al hal]
  obtain rfl : s = fun x : Fin n => masked al (fun j => (((Real.log 2)⁻¹ : ℝ) : EReal) * Y j) x.val := funext hs
  obtain rfl : w = fun x : Fin n => W x.val := funext hw
  obtain rfl : v = fun x : Fin n => V x.val := funext hv
  unfold rowPay
  rw [neg_inf]
  rfl

/-- A column of a 128-lane array, repeated to 256 lanes. -/
def lane (i : Fin 256) : Fin 128 := ⟨i.val % 128, Nat.mod_lt _ (by decide)⟩

theorem lane_dite {α : Type} (f : Fin 128 → α) (i : Fin 256) :
    (if h : i.val < 128 then f ⟨i.val, h⟩ else f ⟨i.val - 128, by have := i.isLt; omega⟩) = f (lane i) := by
  split
  · exact congrArg f (Fin.ext (by show i.val = i.val % 128; omega))
  · exact congrArg f (Fin.ext (by show i.val - 128 = i.val % 128; have := i.isLt; omega))

/-- One head's scores before the mask, as the kernel multiplies them. -/
def xscore {n : ℕ} (k : Fin n → Fin 96 → EReal) (q : Fin 96 → EReal) (ks : Fin n → EReal) (qs : EReal) (x : Fin n) : EReal :=
  ((∑ d, k x d * q d) * ks x) * qs

/-- The 256-key payload at an index. -/
theorem pay160_apply (a : BitVec 32) (k : FVec Ideal S1x1x256x96 .fp8e4m3) (q : FVec Ideal S1x1x256x96 .fp8e4m3)
    (ks vs : FVec Ideal S1x256x128 .f32) (qs : FVec Ideal S1x1x256 .f32) (m : IVec S256x256 32) (v : FVec Ideal S1x96x256 .bf16)
    (d : Fin 96) (i : Fin 256) :
    k0_pay160 (F := Ideal) a (k0_pay127 vs) (k0_pay128 k q ks qs) 1#32 m v (ix2 d i)
      = rowPay (fun x => sel (Scalar.shli 1#32 a) (m (ix2 x i))
          (xscore (fun x d => k (ix4 0 0 x d)) (fun d => q (ix4 0 0 i d)) (fun x => ks (ix3 0 x (lane i))) (qs (ix3 0 0 i)) x))
          (fun x => vs (ix3 0 x (lane i))) (fun x => v (ix3 0 d x)) := by
  pointwise [k0_pay160, k0_pay127, k0_pay128]
  simp only [fun x : Fin 256 => lane_dite (fun l => ks (ix3 0 x l)) i, fun x : Fin 256 => lane_dite (fun l => vs (ix3 0 x l)) i]
  rfl

/-- The 512-key payload at an index. -/
theorem pay162_apply (a : BitVec 32) (k : FVec Ideal S1x1x512x96 .fp8e4m3) (q : FVec Ideal S1x1x256x96 .fp8e4m3)
    (ks vs : FVec Ideal S1x512x128 .f32) (qs : FVec Ideal S1x1x256 .f32) (m : IVec S512x256 32) (v : FVec Ideal S1x96x512 .bf16)
    (d : Fin 96) (i : Fin 256) :
    k0_pay162 (F := Ideal) a (k0_pay134 vs) (k0_pay135 k q ks qs) 1#32 m v (ix2 d i)
      = rowPay (fun x => sel (Scalar.shli 1#32 a) (m (ix2 x i))
          (xscore (fun x d => k (ix4 0 0 x d)) (fun d => q (ix4 0 0 i d)) (fun x => ks (ix3 0 x (lane i))) (qs (ix3 0 0 i)) x))
          (fun x => vs (ix3 0 x (lane i))) (fun x => v (ix3 0 d x)) := by
  pointwise [k0_pay162, k0_pay134, k0_pay135]
  simp only [fun x : Fin 512 => lane_dite (fun l => ks (ix3 0 x l)) i, fun x : Fin 512 => lane_dite (fun l => vs (ix3 0 x l)) i]
  rfl

/-- The 768-key payload at an index. -/
theorem pay165_apply (a : BitVec 32) (k : FVec Ideal S1x1x768x96 .fp8e4m3) (q : FVec Ideal S1x1x256x96 .fp8e4m3)
    (ks vs : FVec Ideal S1x768x128 .f32) (qs : FVec Ideal S1x1x256 .f32) (m : IVec S768x256 32) (v : FVec Ideal S1x96x768 .bf16)
    (d : Fin 96) (i : Fin 256) :
    k0_pay165 (F := Ideal) a (k0_pay144 vs) (k0_pay145 k q ks qs) 1#32 m v (ix2 d i)
      = rowPay (fun x => sel (Scalar.shli 1#32 a) (m (ix2 x i))
          (xscore (fun x d => k (ix4 0 0 x d)) (fun d => q (ix4 0 0 i d)) (fun x => ks (ix3 0 x (lane i))) (qs (ix3 0 0 i)) x))
          (fun x => vs (ix3 0 x (lane i))) (fun x => v (ix3 0 d x)) := by
  pointwise [k0_pay165, k0_pay144, k0_pay145]
  simp only [fun x : Fin 768 => lane_dite (fun l => ks (ix3 0 x l)) i, fun x : Fin 768 => lane_dite (fun l => vs (ix3 0 x l)) i]
  rfl

end Cert.KernelIdeal.Head

end
-- ==== Proof.HeadOut.lean ====
module

public import proofs.«01_k».proof.Proof.HeadPay
public import Idealize.ShloMosaic.Lib.Pipeline.ReadBack

@[expose] public section

set_option maxRecDepth 16384

noncomputable section

namespace Cert.KernelIdeal.Head

open Idealize.ShloMosaic Idealize.ShloMosaic.TcCoe Idealize.ShloMosaic.Tactic
open Cert.KernelIdeal Cert.KernelIdeal.Gen
open Cert.Row Cert.Spec

/-- The position of query `i` of block `u`: a block is 256 queries. -/
def qpos (u : Fin 3) (i : Fin 256) : Fin 768 := ⟨256 * u.val + i.val, by omega⟩

/-- The constant the key scales are multiplied by: one over the square root of 96, times one over the logarithm of two. -/
def scaleLog2e : EReal := (((Real.sqrt 96)⁻¹ * (Real.log 2)⁻¹ : ℝ) : EReal)

variable (A : Args) (b : Fin 2) (u : Fin 3)

/-- The buffers a head reads hold batch `b`'s blocks and, of the queries, block `u`'s. -/
structure Holds (x2 : S1x30x256x96.Idx → EReal) (x3 : S1x30x256.Idx → EReal) (x4 : S1x6x768x96.Idx → EReal)
    (x14 x15 : S6x768x128.Idx → EReal) (x16 : S6x96x768.Idx → EReal) : Prop where
  q : ∀ h i d, x2 (ix4 0 h i d) = A.q b (qpos u i) h d
  qs : ∀ h i, x3 (ix3 0 h i) = A.qs b (qpos u i) h
  k : ∀ g j d, x4 (ix4 0 g j d) = A.k b j g d
  ks : ∀ g j l, x14 (ix3 g j l) = A.ks b j g * scaleLog2e
  vs : ∀ g j l, x15 (ix3 g j l) = A.vs b j g
  v : ∀ g d j, x16 (ix3 g d j) = A.v b j g d

/-- The mask's first `n` rows hold, in the head's bit of the word at a key and a query, whether the query attends to the key. -/
def MaskOk (n : ℕ) (x13 : S768x256.Idx → BitVec 32) : Prop :=
  ∀ (j : Fin 768), j.val < n → ∀ (i : Fin 256) (h : Fin 30),
    (x13 (ix2 j i) &&& Scalar.shli 1#32 (BitVec.ofNat 32 h.val) ≠ 0#32) ↔ allowed A b h (qpos u i).val j.val

/-- One head's row from what the buffers hold: the payload's row over the first `n` keys is the result. -/
theorem row_out {n : ℕ} (hn : n ≤ 768) (hu : 256 * (u.val + 1) ≤ n) {x2 x3 x4 x14 x15 x16} (H : Holds A b u x2 x3 x4 x14 x15 x16) {x13} (M : MaskOk A b u n x13)
    (h : Fin 30) (i : Fin 256) (d : Fin 96) (m : Fin n → BitVec 32) (k : Fin n → Fin 96 → EReal) (q : Fin 96 → EReal) (ks : Fin n → EReal) (qs : EReal)
    (vs v : Fin n → EReal) (a : BitVec 32) (ha : a = BitVec.ofNat 32 h.val)
    (hm : ∀ x : Fin n, m x = x13 (ix2 ⟨x.val, by omega⟩ i)) (hk : ∀ (x : Fin n) e, k x e = x4 (ix4 0 (group h) ⟨x.val, by omega⟩ e))
    (hq : ∀ e, q e = x2 (ix4 0 h i e)) (hks : ∀ x : Fin n, ks x = x14 (ix3 (group h) ⟨x.val, by omega⟩ (lane i)))
    (hqs : qs = x3 (ix3 0 h i)) (hvs : ∀ x : Fin n, vs x = x15 (ix3 (group h) ⟨x.val, by omega⟩ (lane i)))
    (hv : ∀ x : Fin n, v x = x16 (ix3 (group h) d ⟨x.val, by omega⟩)) :
    rowPay (fun x => sel (Scalar.shli 1#32 a) (m x) (xscore k q ks qs x)) vs v = out A b (qpos u i) h d := by
  subst ha
  unfold out
  refine rowPay_eq hn (allowed A b h (qpos u i).val) (fun j _ ha => ?_) _ _ _ _ _ _ (fun x => ?_) (fun x => ?_) (fun x => ?_)
  · have := ha.1
    have hi := i.isLt
    simp only [qpos] at this
    omega
  · have hx : x.val < 768 := by omega
    rw [sel_eq, hm]
    have e := M ⟨x.val, hx⟩ x.isLt i h
    unfold masked
    by_cases ha : allowed A b h (qpos u i).val x.val
    case neg => rw [if_neg (mt e.mp ha), if_neg ha]
    rw [if_pos (e.mpr ha), if_pos ha]
    simp only [xscore, hk, hq, hks, hqs, H.q, H.k, H.qs, H.ks, nat, dif_pos hx, score, scaleLog2e, smScale]
    rw [EReal.coe_mul]
    ac_rfl
  · rw [hvs, H.vs]; simp [nat, show x.val < 768 by omega]
  · rw [hv, H.v]; simp [nat, show x.val < 768 by omega]

/-- What the transposed result holds after the heads' loop: row `96 h + d`, column `i` is the result at query `i`,
    head `h`, coordinate `d`. -/
def otOf (y : S2880x256.Idx) : EReal :=
  out A b (qpos u (y 1)) ⟨(y 0).val / 96, by have h : (y 0).val < 2880 := (y 0).isLt; omega⟩ ⟨(y 0).val % 96, Nat.mod_lt _ (by decide)⟩

/-- A load through a rectangle reads the buffer at the placed coordinates. -/
theorem readAt_at {sp : Space} {s : Shape} {e : EltTy} {Val : EltTy → Type} (v : View sig .tc sp s e) {off size : Fin s.rank → ℕ}
    (inb : ∀ a, off a + size a ≤ s.size a) (f : v.ty.Contents Val) (j : (Rect.unit off size inb).shape.Idx) (y : s.Idx)
    (h : ∀ a, off a + (j a).val = (y a).val) : View.readAt Val v (Rect.unit off size inb).toLoadRect f j = v.read Val f y := by
  unfold View.readAt
  congr 1
  funext a
  apply Fin.ext
  rw [← h a]
  exact Rect.idx_unit_val _ _ _ _ _

end Cert.KernelIdeal.Head

end
-- ==== Proof.Trip.lean ====
module

public import proofs.«01_k».proof.Proof.HeadOut

@[expose] public section

set_option maxRecDepth 16384

noncomputable section

namespace Cert.KernelIdeal.Trip

open Idealize.ShloMosaic Idealize.ShloMosaic.TcCoe Idealize.ShloMosaic.Tactic
open Cert.KernelIdeal Cert.KernelIdeal.Gen Cert.KernelIdeal.Head
open Cert.Row Cert.Spec

/-- Two lists of blocks of one array, appended. -/
theorem piecesOf_append {s : Shape} {e : EltTy} {Val : EltTy → Type} {G : s.Idx → Val e} {L L' : List (View.Piece Val s e)} (h : View.PiecesOf G L) (h' : View.PiecesOf G L') :
    View.PiecesOf G (L ++ L') := by
  induction L with
  | nil => exact h'
  | cons p L ih => exact ⟨h.1, ih h.2⟩

/-- A buffer written by blocks of one array reads as the array wherever one of them covers. -/
theorem read_writes_of {sp : Space} {s : Shape} {e : EltTy} {v : View sig .tc sp s e} {G : s.Idx → Elt Ideal e}
    {L : List (View.Piece (Elt Ideal) s e)} (h : View.PiecesOf G L) (f : v.ty.Contents (Elt Ideal)) (y : s.Idx) (hc : ∃ p ∈ L, y ∈ p.1.set) :
    v.read (Elt Ideal) (v.writes (Elt Ideal) f L) y = G y := by
  rw [View.read_writes_apply_eq_canon v f y L hc]
  have := View.canon_append_of_piecesOf G [] L h y hc
  rwa [List.append_nil] at this

variable (A : Args) (b : Fin 2) (u : Fin 3)

/-- A store of a head's 96 rows: row `96 h + d` of the placed block is head `h`, coordinate `d`. -/
theorem otOf_emb {off : Fin 2 → ℕ} (inb : ∀ a, off a + ![96, 256] a ≤ S2880x256.size a) (h : Fin 30) (ho : off = ![96 * h.val, 0])
    (d : Fin 96) (i : Fin 256) :
    otOf A b u ((Rect.unit (s := S2880x256) off ![96, 256] inb).emb (ix2 d i)) = out A b (qpos u i) h d := by
  subst ho
  have e0 : (((Rect.unit (s := S2880x256) ![96 * h.val, 0] ![96, 256] inb).emb (ix2 d i)) 0).val = 96 * h.val + d.val := by
    exact Rect.idx_unit_val _ _ _ _ _
  have e1 : (((Rect.unit (s := S2880x256) ![96 * h.val, 0] ![96, 256] inb).emb (ix2 d i)) 1).val = i.val := by
    exact (Rect.idx_unit_val _ _ _ _ _).trans (Nat.zero_add _)
  have hd := d.isLt
  unfold otOf
  congr 1
  · congr 1; exact Fin.ext e1
  · apply Fin.ext; show (_ : ℕ) / 96 = h.val; rw [e0]; omega
  · apply Fin.ext; show (_ : ℕ) % 96 = d.val; rw [e0]; omega

/-- A row of the transposed result lies in the head's block it belongs to. -/
theorem ot_mem {off : Fin 2 → ℕ} (inb : ∀ a, off a + ![96, 256] a ≤ S2880x256.size a) (y : S2880x256.Idx) {k : ℕ}
    (ho : off = ![96 * k, 0]) (hy : (y 0).val / 96 = k) :
    y ∈ (Rect.unit (s := S2880x256) off ![96, 256] inb).set := by
  subst ho
  have h1 : (y 1).val < 256 := (y 1).isLt
  rw [Rect.mem_set_unit]
  intro a
  match a with
  | ⟨0, _⟩ => exact ⟨show 96 * k ≤ (y 0).val by omega, show (y 0).val < 96 * k + 96 by omega⟩
  | ⟨1, _⟩ => exact ⟨Nat.zero_le _, show (y 1).val < 0 + 256 by omega⟩

variable (𝒱 : Variants) (c : Dev nD) (bd : Option 𝒱.V) (i : grid0.Coords) (arg2 : Memref sig .tc .vmem S1x30x256x96 .fp8e4m3) (harg2 : arg2.IsWhole) (arg3 : Memref sig .tc .vmem S1x30x256 .f32) (harg3 : arg3.IsWhole) (arg4 : Memref sig .tc .vmem S1x6x768x96 .fp8e4m3) (harg4 : arg4.IsWhole) (arg5 : Memref sig .tc .vmem S1x768x6 .f32) (harg5 : arg5.IsWhole) (arg6 : Memref sig .tc .vmem S1x6x768x96 .fp8e4m3) (harg6 : arg6.IsWhole) (arg7 : Memref sig .tc .vmem S1x768x6 .f32) (harg7 : arg7.IsWhole) (arg8 : Memref sig .tc .vmem S1x30x112 .i32) (harg8 : arg8.IsWhole) (arg9 : Memref sig .tc .vmem S1x30x320 .i32) (harg9 : arg9.IsWhole) (arg10 : Memref sig .tc .vmem S1x256x2880 .bf16) (harg10 : arg10.IsWhole) (arg11 : Memref sig .tc .vmem S6x128x128 .i32) (harg11 : arg11.IsWhole) (arg12 : Memref sig .tc .vmem S6x128x128 .i32) (harg12 : arg12.IsWhole) (arg13 : Memref sig .tc .vmem S768x256 .i32) (harg13 : arg13.IsWhole) (arg14 : Memref sig .tc .vmem S6x768x128 .f32) (harg14 : arg14.IsWhole) (arg15 : Memref sig .tc .vmem S6x768x128 .f32) (harg15 : arg15.IsWhole) (arg16 : Memref sig .tc .vmem S6x96x768 .bf16) (harg16 : arg16.IsWhole) (arg17 : Memref sig .tc .vmem S2880x256 .bf16) (harg17 : arg17.IsWhole)

section Loop1

variable (hc : k0_cond2 i = 1#1) (X2 : BufTy.Contents (Elt Ideal) arg2.view.ty) (X3 : BufTy.Contents (Elt Ideal) arg3.view.ty) (X4 : BufTy.Contents (Elt Ideal) arg4.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty)

theorem trips1 : k0_t1_loop.trips = 30 := by decide +kernel

theorem iv1 : ∀ k : Fin k0_t1_loop.trips, Scf.iv k0_t1_loop.lb k0_t1_loop.st k.val = BitVec.ofNat 32 k.val := by decide +kernel
theorem off1 : ∀ k : Fin k0_t1_loop.trips, k0_off1 k = ![0, k.val / 5, 0, 0] := by decide +kernel
theorem off2 : ∀ k : Fin k0_t1_loop.trips, k0_off2 k = ![0, k.val, 0, 0] := by decide +kernel
theorem off3 : ∀ k : Fin k0_t1_loop.trips, k0_off3 k = ![k.val / 5, 0, 0] := by decide +kernel
theorem off4 : ∀ k : Fin k0_t1_loop.trips, k0_off4 k = ![0, k.val, 0] := by decide +kernel
theorem off5 : ∀ k : Fin k0_t1_loop.trips, k0_off5 k = ![k.val / 5, 0, 0] := by decide +kernel
theorem off6 : ∀ k : Fin k0_t1_loop.trips, k0_off6 k = ![96 * k.val, 0] := by decide +kernel

/-- One trip over 256 keys stores the head's rows of the result. -/
theorem piece1 (k : Fin k0_t1_loop.trips) (H : Holds A b u (arg2.view.read (Elt Ideal) X2) (arg3.view.read (Elt Ideal) X3) (arg4.view.read (Elt Ideal) X4)
      (arg14.view.read (Elt Ideal) X14) (arg15.view.read (Elt Ideal) X15) (arg16.view.read (Elt Ideal) X16))
    (hu : 256 * (u.val + 1) ≤ 256) (M : MaskOk A b u 256 (arg13.view.read (Elt Ideal) X13)) :
    View.PiecesOf (otOf A b u) (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 k) := by
  unfold tripL_k0_t1 trip_k0_t1
  dsimp only
  have hk : k.val < 30 := lt_of_lt_of_eq k.isLt trips1
  have q1 := off1 k
  have q2 := off2 k
  have q3 := off3 k
  have q4 := off4 k
  have q5 := off5 k
  refine ⟨fun x => ?_, trivial⟩
  obtain ⟨d, l, rfl⟩ : ∃ (d : Fin 96) (l : Fin 256), x = ix2 d l := ⟨x 0, x 1, eq_ix2 x⟩
  refine Eq.trans ?_ (otOf_emb A b u (k0_off6_inb i k hc) ⟨k.val, hk⟩ (off6 k) d l).symm
  refine Eq.trans (pay160_apply _ _ _ _ _ _ _ _ d l) ?_
  refine row_out A b u (by omega) hu H M ⟨k.val, hk⟩ l d _ _ _ _ _ _ _ _ (iv1 k) (fun x => ?_) (fun x e => ?_) (fun e => ?_) (fun x => ?_) ?_
    (fun x => ?_) (fun x => ?_)
  · exact readAt_at _ _ _ _ _ (fun a => by match a with | ⟨0, _⟩ => exact Nat.zero_add _ | ⟨1, _⟩ => exact Nat.zero_add _)
  · refine readAt_at _ _ _ _ _ (fun a => ?_)
    refine (congrArg (· + _) (congrFun q1 a)).trans ?_
    match a with | ⟨0, _⟩ => rfl | ⟨1, _⟩ => rfl | ⟨2, _⟩ => exact Nat.zero_add _ | ⟨3, _⟩ => exact Nat.zero_add _
  · refine readAt_at _ _ _ _ _ (fun a => ?_)
    refine (congrArg (· + _) (congrFun q2 a)).trans ?_
    match a with | ⟨0, _⟩ => rfl | ⟨1, _⟩ => rfl | ⟨2, _⟩ => exact Nat.zero_add _ | ⟨3, _⟩ => exact Nat.zero_add _
  · refine readAt_at _ _ _ _ _ (fun a => ?_)
    refine (congrArg (· + _) (congrFun q3 a)).trans ?_
    match a with | ⟨0, _⟩ => rfl | ⟨1, _⟩ => exact Nat.zero_add _ | ⟨2, _⟩ => exact Nat.zero_add _
  · refine readAt_at _ _ _ _ _ (fun a => ?_)
    refine (congrArg (· + _) (congrFun q4 a)).trans ?_
    match a with | ⟨0, _⟩ => rfl | ⟨1, _⟩ => rfl | ⟨2, _⟩ => exact Nat.zero_add _
  · refine readAt_at _ _ _ _ _ (fun a => ?_)
    refine (congrArg (· + _) (congrFun q3 a)).trans ?_
    match a with | ⟨0, _⟩ => rfl | ⟨1, _⟩ => exact Nat.zero_add _ | ⟨2, _⟩ => exact Nat.zero_add _
  · refine readAt_at _ _ _ _ _ (fun a => ?_)
    refine (congrArg (· + _) (congrFun q5 a)).trans ?_
    match a with | ⟨0, _⟩ => rfl | ⟨1, _⟩ => exact Nat.zero_add _ | ⟨2, _⟩ => exact Nat.zero_add _

/-- The trip's rows are covered. -/
theorem mem1 (k : Fin k0_t1_loop.trips) (y : S2880x256.Idx) (hy : (y 0).val / 96 = k.val) :
    ∃ p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 k, y ∈ p.1.set := by
  unfold tripL_k0_t1 trip_k0_t1
  dsimp only
  exact ⟨_, List.mem_cons_self, ot_mem (k0_off6_inb i k hc) y (off6 k) hy⟩

/-- After the loop over 256 keys the transposed result reads as `otOf` everywhere, whatever it held before. -/
theorem after1 (H : Holds A b u (arg2.view.read (Elt Ideal) X2) (arg3.view.read (Elt Ideal) X3) (arg4.view.read (Elt Ideal) X4)
      (arg14.view.read (Elt Ideal) X14) (arg15.view.read (Elt Ideal) X15) (arg16.view.read (Elt Ideal) X16))
    (hu : 256 * (u.val + 1) ≤ 256) (M : MaskOk A b u 256 (arg13.view.read (Elt Ideal) X13)) (f : BufTy.Contents (Elt Ideal) arg17.view.ty) (y : S2880x256.Idx) :
    arg17.view.read (Elt Ideal) (arg17.view.writes (Elt Ideal) f (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16
      (Scf.trips k0_t1_loop.lb k0_t1_loop.ub k0_t1_loop.st))) y = otOf A b u y := by
  have key : ∀ n, n ≤ k0_t1_loop.trips →
      View.PiecesOf (otOf A b u) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 n)
        ∧ ∀ y : S2880x256.Idx, (y 0).val / 96 < n → ∃ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 n, y ∈ p.1.set := by
    intro n
    induction n with
    | zero => exact fun _ => ⟨trivial, fun y h => absurd h (Nat.not_lt_zero _)⟩
    | succ n ih =>
      intro hn
      obtain ⟨ih1, ih2⟩ := ih (by omega)
      have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 ⟨n, hn⟩
      simp only at e
      rw [e]
      refine ⟨piecesOf_append (piece1 A b u 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 ⟨n, hn⟩ H hu M) ih1, fun y hy => ?_⟩
      by_cases h : (y 0).val / 96 = n
      · obtain ⟨p, hp, hm⟩ := mem1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 ⟨n, hn⟩ y h
        exact ⟨p, List.mem_append_left _ hp, hm⟩
      · obtain ⟨p, hp, hm⟩ := ih2 y (by omega)
        exact ⟨p, List.mem_append_right _ hp, hm⟩
  obtain ⟨k1, k2⟩ := key k0_t1_loop.trips le_rfl
  have hy : (y 0).val < 2880 := (y 0).isLt
  have ht := trips1
  exact read_writes_of k1 f y (k2 y (by omega))

end Loop1

section Loop2

variable (hc : k0_cond3 i = 1#1) (X2 : BufTy.Contents (Elt Ideal) arg2.view.ty) (X3 : BufTy.Contents (Elt Ideal) arg3.view.ty) (X4 : BufTy.Contents (Elt Ideal) arg4.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty)

theorem trips2 : k0_t2_loop.trips = 30 := by decide +kernel

theorem iv2 : ∀ k : Fin k0_t2_loop.trips, Scf.iv k0_t2_loop.lb k0_t2_loop.st k.val = BitVec.ofNat 32 k.val := by decide +kernel
theorem off7 : ∀ k : Fin k0_t2_loop.trips, k0_off7 k = ![0, k.val / 5, 0, 0] := by decide +kernel
theorem off8 : ∀ k : Fin k0_t2_loop.trips, k0_off8 k = ![0, k.val, 0, 0] := by decide +kernel
theorem off9 : ∀ k : Fin k0_t2_loop.trips, k0_off9 k = ![k.val / 5, 0, 0] := by decide +kernel
theorem off10 : ∀ k : Fin k0_t2_loop.trips, k0_off10 k = ![0, k.val, 0] := by decide +kernel
theorem off11 : ∀ k : Fin k0_t2_loop.trips, k0_off11 k = ![k.val / 5, 0, 0] := by decide +kernel
theorem off12 : ∀ k : Fin k0_t2_loop.trips, k0_off12 k = ![96 * k.val, 0] := by decide +kernel

/-- One trip over 512 keys stores the head's rows of the result. -/
theorem piece2 (k : Fin k0_t2_loop.trips) (H : Holds A b u (arg2.view.read (Elt Ideal) X2) (arg3.view.read (Elt Ideal) X3) (arg4.view.read (Elt Ideal) X4)
      (arg14.view.read (Elt Ideal) X14) (arg15.view.read (Elt Ideal) X15) (arg16.view.read (Elt Ideal) X16))
    (hu : 256 * (u.val + 1) ≤ 512) (M : MaskOk A b u 512 (arg13.view.read (Elt Ideal) X13)) :
    View.PiecesOf (otOf A b u) (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 k) := by
  unfold tripL_k0_t2 trip_k0_t2
  dsimp only
  have hk : k.val < 30 := lt_of_lt_of_eq k.isLt trips2
  have q1 := off7 k
  have q2 := off8 k
  have q3 := off9 k
  have q4 := off10 k
  have q5 := off11 k
  refine ⟨fun x => ?_, trivial⟩
  obtain ⟨d, l, rfl⟩ : ∃ (d : Fin 96) (l : Fin 256), x = ix2 d l := ⟨x 0, x 1, eq_ix2 x⟩
  refine Eq.trans ?_ (otOf_emb A b u (k0_off12_inb i k hc) ⟨k.val, hk⟩ (off12 k) d l).symm
  refine Eq.trans (pay162_apply _ _ _ _ _ _ _ _ d l) ?_
  refine row_out A b u (by omega) hu H M ⟨k.val, hk⟩ l d _ _ _ _ _ _ _ _ (iv2 k) (fun x => ?_) (fun x e => ?_) (fun e => ?_) (fun x => ?_) ?_
    (fun x => ?_) (fun x => ?_)
  · exact readAt_at _ _ _ _ _ (fun a => by match a with | ⟨0, _⟩ => exact Nat.zero_add _ | ⟨1, _⟩ => exact Nat.zero_add _)
  · refine readAt_at _ _ _ _ _ (fun a => ?_)
    refine (congrArg (· + _) (congrFun q1 a)).trans ?_
    match a with | ⟨0, _⟩ => rfl | ⟨1, _⟩ => rfl | ⟨2, _⟩ => exact Nat.zero_add _ | ⟨3, _⟩ => exact Nat.zero_add _
  · refine readAt_at _ _ _ _ _ (fun a => ?_)
    refine (congrArg (· + _) (congrFun q2 a)).trans ?_
    match a with | ⟨0, _⟩ => rfl | ⟨1, _⟩ => rfl | ⟨2, _⟩ => exact Nat.zero_add _ | ⟨3, _⟩ => exact Nat.zero_add _
  · refine readAt_at _ _ _ _ _ (fun a => ?_)
    refine (congrArg (· + _) (congrFun q3 a)).trans ?_
    match a with | ⟨0, _⟩ => rfl | ⟨1, _⟩ => exact Nat.zero_add _ | ⟨2, _⟩ => exact Nat.zero_add _
  · refine readAt_at _ _ _ _ _ (fun a => ?_)
    refine (congrArg (· + _) (congrFun q4 a)).trans ?_
    match a with | ⟨0, _⟩ => rfl | ⟨1, _⟩ => rfl | ⟨2, _⟩ => exact Nat.zero_add _
  · refine readAt_at _ _ _ _ _ (fun a => ?_)
    refine (congrArg (· + _) (congrFun q3 a)).trans ?_
    match a with | ⟨0, _⟩ => rfl | ⟨1, _⟩ => exact Nat.zero_add _ | ⟨2, _⟩ => exact Nat.zero_add _
  · refine readAt_at _ _ _ _ _ (fun a => ?_)
    refine (congrArg (· + _) (congrFun q5 a)).trans ?_
    match a with | ⟨0, _⟩ => rfl | ⟨1, _⟩ => exact Nat.zero_add _ | ⟨2, _⟩ => exact Nat.zero_add _

/-- The trip's rows are covered. -/
theorem mem2 (k : Fin k0_t2_loop.trips) (y : S2880x256.Idx) (hy : (y 0).val / 96 = k.val) :
    ∃ p ∈ tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 k, y ∈ p.1.set := by
  unfold tripL_k0_t2 trip_k0_t2
  dsimp only
  exact ⟨_, List.mem_cons_self, ot_mem (k0_off12_inb i k hc) y (off12 k) hy⟩

/-- After the loop over 512 keys the transposed result reads as `otOf` everywhere, whatever it held before. -/
theorem after2 (H : Holds A b u (arg2.view.read (Elt Ideal) X2) (arg3.view.read (Elt Ideal) X3) (arg4.view.read (Elt Ideal) X4)
      (arg14.view.read (Elt Ideal) X14) (arg15.view.read (Elt Ideal) X15) (arg16.view.read (Elt Ideal) X16))
    (hu : 256 * (u.val + 1) ≤ 512) (M : MaskOk A b u 512 (arg13.view.read (Elt Ideal) X13)) (f : BufTy.Contents (Elt Ideal) arg17.view.ty) (y : S2880x256.Idx) :
    arg17.view.read (Elt Ideal) (arg17.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16
      (Scf.trips k0_t2_loop.lb k0_t2_loop.ub k0_t2_loop.st))) y = otOf A b u y := by
  have key : ∀ n, n ≤ k0_t2_loop.trips →
      View.PiecesOf (otOf A b u) (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 n)
        ∧ ∀ y : S2880x256.Idx, (y 0).val / 96 < n → ∃ p ∈ pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 n, y ∈ p.1.set := by
    intro n
    induction n with
    | zero => exact fun _ => ⟨trivial, fun y h => absurd h (Nat.not_lt_zero _)⟩
    | succ n ih =>
      intro hn
      obtain ⟨ih1, ih2⟩ := ih (by omega)
      have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 ⟨n, hn⟩
      simp only at e
      rw [e]
      refine ⟨piecesOf_append (piece2 A b u 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 ⟨n, hn⟩ H hu M) ih1, fun y hy => ?_⟩
      by_cases h : (y 0).val / 96 = n
      · obtain ⟨p, hp, hm⟩ := mem2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 ⟨n, hn⟩ y h
        exact ⟨p, List.mem_append_left _ hp, hm⟩
      · obtain ⟨p, hp, hm⟩ := ih2 y (by omega)
        exact ⟨p, List.mem_append_right _ hp, hm⟩
  obtain ⟨k1, k2⟩ := key k0_t2_loop.trips le_rfl
  have hy : (y 0).val < 2880 := (y 0).isLt
  have ht := trips2
  exact read_writes_of k1 f y (k2 y (by omega))

end Loop2

section Loop3

variable (hc : k0_cond4 i = 1#1) (X2 : BufTy.Contents (Elt Ideal) arg2.view.ty) (X3 : BufTy.Contents (Elt Ideal) arg3.view.ty) (X4 : BufTy.Contents (Elt Ideal) arg4.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty)

theorem trips3 : k0_t3_loop.trips = 30 := by decide +kernel

theorem iv3 : ∀ k : Fin k0_t3_loop.trips, Scf.iv k0_t3_loop.lb k0_t3_loop.st k.val = BitVec.ofNat 32 k.val := by decide +kernel
theorem off13 : ∀ k : Fin k0_t3_loop.trips, k0_off13 k = ![0, k.val / 5, 0, 0] := by decide +kernel
theorem off14 : ∀ k : Fin k0_t3_loop.trips, k0_off14 k = ![0, k.val, 0, 0] := by decide +kernel
theorem off15 : ∀ k : Fin k0_t3_loop.trips, k0_off15 k = ![k.val / 5, 0, 0] := by decide +kernel
theorem off16 : ∀ k : Fin k0_t3_loop.trips, k0_off16 k = ![0, k.val, 0] := by decide +kernel
theorem off17 : ∀ k : Fin k0_t3_loop.trips, k0_off17 k = ![k.val / 5, 0, 0] := by decide +kernel
theorem off18 : ∀ k : Fin k0_t3_loop.trips, k0_off18 k = ![96 * k.val, 0] := by decide +kernel

/-- One trip over 768 keys stores the head's rows of the result. -/
theorem piece3 (k : Fin k0_t3_loop.trips) (H : Holds A b u (arg2.view.read (Elt Ideal) X2) (arg3.view.read (Elt Ideal) X3) (arg4.view.read (Elt Ideal) X4)
      (arg14.view.read (Elt Ideal) X14) (arg15.view.read (Elt Ideal) X15) (arg16.view.read (Elt Ideal) X16))
    (hu : 256 * (u.val + 1) ≤ 768) (M : MaskOk A b u 768 (arg13.view.read (Elt Ideal) X13)) :
    View.PiecesOf (otOf A b u) (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 k) := by
  unfold tripL_k0_t3 trip_k0_t3
  dsimp only
  have hk : k.val < 30 := lt_of_lt_of_eq k.isLt trips3
  have q1 := off13 k
  have q2 := off14 k
  have q3 := off15 k
  have q4 := off16 k
  have q5 := off17 k
  refine ⟨fun x => ?_, trivial⟩
  obtain ⟨d, l, rfl⟩ : ∃ (d : Fin 96) (l : Fin 256), x = ix2 d l := ⟨x 0, x 1, eq_ix2 x⟩
  refine Eq.trans ?_ (otOf_emb A b u (k0_off18_inb i k hc) ⟨k.val, hk⟩ (off18 k) d l).symm
  refine Eq.trans (pay165_apply _ _ _ _ _ _ _ _ d l) ?_
  refine row_out A b u (by omega) hu H M ⟨k.val, hk⟩ l d _ _ _ _ _ _ _ _ (iv3 k) (fun x => ?_) (fun x e => ?_) (fun e => ?_) (fun x => ?_) ?_
    (fun x => ?_) (fun x => ?_)
  · exact readAt_at _ _ _ _ _ (fun a => by match a with | ⟨0, _⟩ => exact Nat.zero_add _ | ⟨1, _⟩ => exact Nat.zero_add _)
  · refine readAt_at _ _ _ _ _ (fun a => ?_)
    refine (congrArg (· + _) (congrFun q1 a)).trans ?_
    match a with | ⟨0, _⟩ => rfl | ⟨1, _⟩ => rfl | ⟨2, _⟩ => exact Nat.zero_add _ | ⟨3, _⟩ => exact Nat.zero_add _
  · refine readAt_at _ _ _ _ _ (fun a => ?_)
    refine (congrArg (· + _) (congrFun q2 a)).trans ?_
    match a with | ⟨0, _⟩ => rfl | ⟨1, _⟩ => rfl | ⟨2, _⟩ => exact Nat.zero_add _ | ⟨3, _⟩ => exact Nat.zero_add _
  · refine readAt_at _ _ _ _ _ (fun a => ?_)
    refine (congrArg (· + _) (congrFun q3 a)).trans ?_
    match a with | ⟨0, _⟩ => rfl | ⟨1, _⟩ => exact Nat.zero_add _ | ⟨2, _⟩ => exact Nat.zero_add _
  · refine readAt_at _ _ _ _ _ (fun a => ?_)
    refine (congrArg (· + _) (congrFun q4 a)).trans ?_
    match a with | ⟨0, _⟩ => rfl | ⟨1, _⟩ => rfl | ⟨2, _⟩ => exact Nat.zero_add _
  · refine readAt_at _ _ _ _ _ (fun a => ?_)
    refine (congrArg (· + _) (congrFun q3 a)).trans ?_
    match a with | ⟨0, _⟩ => rfl | ⟨1, _⟩ => exact Nat.zero_add _ | ⟨2, _⟩ => exact Nat.zero_add _
  · refine readAt_at _ _ _ _ _ (fun a => ?_)
    refine (congrArg (· + _) (congrFun q5 a)).trans ?_
    match a with | ⟨0, _⟩ => rfl | ⟨1, _⟩ => exact Nat.zero_add _ | ⟨2, _⟩ => exact Nat.zero_add _

/-- The trip's rows are covered. -/
theorem mem3 (k : Fin k0_t3_loop.trips) (y : S2880x256.Idx) (hy : (y 0).val / 96 = k.val) :
    ∃ p ∈ tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 k, y ∈ p.1.set := by
  unfold tripL_k0_t3 trip_k0_t3
  dsimp only
  exact ⟨_, List.mem_cons_self, ot_mem (k0_off18_inb i k hc) y (off18 k) hy⟩

/-- After the loop over 768 keys the transposed result reads as `otOf` everywhere, whatever it held before. -/
theorem after3 (H : Holds A b u (arg2.view.read (Elt Ideal) X2) (arg3.view.read (Elt Ideal) X3) (arg4.view.read (Elt Ideal) X4)
      (arg14.view.read (Elt Ideal) X14) (arg15.view.read (Elt Ideal) X15) (arg16.view.read (Elt Ideal) X16))
    (hu : 256 * (u.val + 1) ≤ 768) (M : MaskOk A b u 768 (arg13.view.read (Elt Ideal) X13)) (f : BufTy.Contents (Elt Ideal) arg17.view.ty) (y : S2880x256.Idx) :
    arg17.view.read (Elt Ideal) (arg17.view.writes (Elt Ideal) f (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16
      (Scf.trips k0_t3_loop.lb k0_t3_loop.ub k0_t3_loop.st))) y = otOf A b u y := by
  have key : ∀ n, n ≤ k0_t3_loop.trips →
      View.PiecesOf (otOf A b u) (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 n)
        ∧ ∀ y : S2880x256.Idx, (y 0).val / 96 < n → ∃ p ∈ pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 n, y ∈ p.1.set := by
    intro n
    induction n with
    | zero => exact fun _ => ⟨trivial, fun y h => absurd h (Nat.not_lt_zero _)⟩
    | succ n ih =>
      intro hn
      obtain ⟨ih1, ih2⟩ := ih (by omega)
      have e := pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 ⟨n, hn⟩
      simp only at e
      rw [e]
      refine ⟨piecesOf_append (piece3 A b u 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 ⟨n, hn⟩ H hu M) ih1, fun y hy => ?_⟩
      by_cases h : (y 0).val / 96 = n
      · obtain ⟨p, hp, hm⟩ := mem3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc X2 X3 X4 X13 X14 X15 X16 ⟨n, hn⟩ y h
        exact ⟨p, List.mem_append_left _ hp, hm⟩
      · obtain ⟨p, hp, hm⟩ := ih2 y (by omega)
        exact ⟨p, List.mem_append_right _ hp, hm⟩
  obtain ⟨k1, k2⟩ := key k0_t3_loop.trips le_rfl
  have hy : (y 0).val < 2880 := (y 0).isLt
  have ht := trips3
  exact read_writes_of k1 f y (k2 y (by omega))

end Loop3

end Cert.KernelIdeal.Trip

end
-- ==== Proof.Mask.lean ====
module

public import proofs.«01_k».proof.Proof.Trip

@[expose] public section

set_option maxRecDepth 16384

noncomputable section

namespace Cert.KernelIdeal.Mask

open Idealize.ShloMosaic Idealize.ShloMosaic.TcCoe Idealize.ShloMosaic.Tactic
open Cert.KernelIdeal Cert.KernelIdeal.Gen Cert.KernelIdeal.Head
open Cert.Row Cert.Spec

/-- The bit of head `h` in a mask word. -/
def bit (h : Fin 30) : BitVec 32 := Scalar.shli 1#32 (BitVec.ofNat 32 h.val)

/-- Head `h`'s bit of a word is set. -/
def has (h : Fin 30) (w : BitVec 32) : Prop := w &&& bit h ≠ 0#32

theorem has_or (h : Fin 30) (a b : BitVec 32) : has h (a ||| b) ↔ has h a ∨ has h b := by
  unfold has
  rw [BitVec.and_comm, BitVec.and_or_distrib_left, BitVec.and_comm _ a, BitVec.and_comm _ b]
  rw [Ne, BitVec.or_eq_zero_iff]
  tauto

theorem has_zero (h : Fin 30) : ¬ has h 0#32 := by simp [has]

/-- The comparison of two lane numbers. -/
theorem sge_lanes : ∀ c r : Fin 128, IntOp.cmpi .sge (BitVec.ofNat 32 c.val) (BitVec.ofNat 32 r.val) = if r.val ≤ c.val then 1#1 else 0#1 := by
  decide +kernel

/-- A choice by the comparison of two lane numbers. -/
theorem sel_lanes (c r : Fin 128) (x y : BitVec 32) :
    Scalar.select (IntOp.cmpi .sge (BitVec.ofNat 32 c.val) (BitVec.ofNat 32 r.val)) x y = if r.val ≤ c.val then x else y := by
  rw [sge_lanes]
  split <;> rfl

variable (A : Args) (b : Fin 2) (u : Fin 3)

/-- What the two carried tables of tiles hold: of the first, tile `d` at (r, c) has the heads whose slash list has the
    distance `128 d + c - r`; of the second, tile `jt` at (r, c) has the heads whose vertical list has the position
    `128 jt + r`. -/
structure Good (x11 x12 : S6x128x128.Idx → BitVec 32) : Prop where
  toep : ∀ (d : Fin 6) (r c : Fin 128) (h : Fin 30), has h (x11 (ix3 d r c)) ↔ (r.val ≤ 128 * d.val + c.val ∧ slashHit A b h (128 * d.val + c.val - r.val))
  vert : ∀ (jt : Fin 6) (r c : Fin 128) (h : Fin 30), has h (x12 (ix3 jt r c)) ↔ vertHit A b h (128 * jt.val + r.val)

/-- The mask word of a key and a query, from the tables: the tiles' union below the diagonal, the same on the diagonal
    where the key is not after the query, and nothing above. -/
def tileWord (x11 x12 : S6x128x128.Idx → BitVec 32) (y : S768x256.Idx) : BitVec 32 :=
  if h : (y 0).val / 128 ≤ 2 * u.val + (y 1).val / 128 then
    if (y 0).val / 128 = 2 * u.val + (y 1).val / 128 ∧ (y 1).val % 128 < (y 0).val % 128 then 0#32
    else x11 (ix3 ⟨2 * u.val + (y 1).val / 128 - (y 0).val / 128, by have h1 : (y 1).val < 256 := (y 1).isLt; omega⟩
          ⟨(y 0).val % 128, Nat.mod_lt _ (by decide)⟩ ⟨(y 1).val % 128, Nat.mod_lt _ (by decide)⟩)
        ||| x12 (ix3 ⟨(y 0).val / 128, by have h0 : (y 0).val < 768 := (y 0).isLt; omega⟩
          ⟨(y 0).val % 128, Nat.mod_lt _ (by decide)⟩ ⟨(y 1).val % 128, Nat.mod_lt _ (by decide)⟩)
  else 0#32

section Word

variable {x11 x12 : S6x128x128.Idx → BitVec 32} {y : S768x256.Idx} {jt half : ℕ} {r c : Fin 128}

theorem tileWord_below (h0 : (y 0).val = 128 * jt + r.val) (h1 : (y 1).val = 128 * half + c.val) (d e : Fin 6) (he : e.val = jt)
    (hd : jt + d.val = 2 * u.val + half) (hrc : r.val ≤ 128 * d.val + c.val) : tileWord u x11 x12 y = x11 (ix3 d r c) ||| x12 (ix3 e r c) := by
  have hr := r.isLt
  have hc := c.isLt
  unfold tileWord
  rw [dif_pos (by omega), if_neg (by omega)]
  congr 2
  · congr 1 <;> apply Fin.ext <;> simp only <;> omega
  · congr 1 <;> apply Fin.ext <;> simp only <;> omega

theorem tileWord_zero (h0 : (y 0).val = 128 * jt + r.val) (h1 : (y 1).val = 128 * half + c.val)
    (hd : 2 * u.val + half < jt ∨ (jt = 2 * u.val + half ∧ c.val < r.val)) : tileWord u x11 x12 y = 0#32 := by
  have hr := r.isLt
  have hc := c.isLt
  unfold tileWord
  by_cases h : (y 0).val / 128 ≤ 2 * u.val + (y 1).val / 128
  · rw [dif_pos h, if_pos (by omega)]
  · rw [dif_neg h]

end Word

/-- The mask read from the tables marks the allowed keys. -/
theorem tileWord_ok {x11 x12} (G : Good A b x11 x12) {n : ℕ} {x13 : S768x256.Idx → BitVec 32} (hx : ∀ y : S768x256.Idx, (y 0).val < n → x13 y = tileWord u x11 x12 y) :
    MaskOk A b u n x13 := by
  intro j hj i h
  rw [hx (ix2 j i) hj]
  show has h _ ↔ _
  have hj' := j.isLt
  have hi := i.isLt
  have hr : j.val % 128 < 128 := Nat.mod_lt _ (by decide)
  have hc : i.val % 128 < 128 := Nat.mod_lt _ (by decide)
  have h0 : ((ix2 j i : S768x256.Idx) 0).val = 128 * (j.val / 128) + (⟨j.val % 128, hr⟩ : Fin 128).val := by
    show j.val = 128 * (j.val / 128) + j.val % 128; omega
  have h1 : ((ix2 j i : S768x256.Idx) 1).val = 128 * (i.val / 128) + (⟨i.val % 128, hc⟩ : Fin 128).val := by
    show i.val = 128 * (i.val / 128) + i.val % 128; omega
  have hq : (qpos u i).val = 256 * u.val + i.val := rfl
  unfold allowed
  rw [hq]
  by_cases hle : j.val ≤ 256 * u.val + i.val
  · rw [tileWord_below u h0 h1 ⟨2 * u.val + i.val / 128 - j.val / 128, by omega⟩ ⟨j.val / 128, by omega⟩ rfl
      (by simp only; omega) (by simp only; omega), has_or, G.toep, G.vert]
    simp only
    have e1 : 128 * (2 * u.val + i.val / 128 - j.val / 128) + i.val % 128 - j.val % 128 = 256 * u.val + i.val - j.val := by omega
    have e2 : 128 * (j.val / 128) + j.val % 128 = j.val := by omega
    have e3 : j.val % 128 ≤ 128 * (2 * u.val + i.val / 128 - j.val / 128) + i.val % 128 := by omega
    rw [e1, e2]
    exact ⟨fun e => ⟨hle, e.imp And.right id⟩, fun e => e.2.imp (fun s => ⟨e3, s⟩) id⟩
  · rw [tileWord_zero u h0 h1 (by simp only; omega)]
    exact ⟨fun e => absurd e (has_zero h), fun e => absurd e.1 hle⟩

section Tiles

variable {jt half : ℕ} {inb : ∀ a, ![128 * jt, 128 * half] a + S128x128.size a ≤ S768x256.size a}

theorem tile_emb0 (r c : Fin 128) : (((Rect.unit (s := S768x256) ![128 * jt, 128 * half] S128x128.size inb).emb (ix2 r c)) 0).val = 128 * jt + r.val :=
  Rect.idx_unit_val _ _ _ _ _

theorem tile_emb1 (r c : Fin 128) : (((Rect.unit (s := S768x256) ![128 * jt, 128 * half] S128x128.size inb).emb (ix2 r c)) 1).val = 128 * half + c.val :=
  Rect.idx_unit_val _ _ _ _ _

/-- An element of the mask lies in the tile it belongs to. -/
theorem tile_mem (jt half : ℕ) (inb : ∀ a, ![128 * jt, 128 * half] a + S128x128.size a ≤ S768x256.size a) (y : S768x256.Idx)
    (h0 : (y 0).val / 128 = jt) (h1 : (y 1).val / 128 = half) :
    y ∈ (Rect.unit (s := S768x256) ![128 * jt, 128 * half] S128x128.size inb).set := by
  rw [Rect.mem_set_unit]
  intro a
  match a with
  | ⟨0, _⟩ => exact ⟨show 128 * jt ≤ (y 0).val by omega, show (y 0).val < 128 * jt + 128 by omega⟩
  | ⟨1, _⟩ => exact ⟨show 128 * half ≤ (y 1).val by omega, show (y 1).val < 128 * half + 128 by omega⟩

variable {x11 x12 : S6x128x128.Idx → BitVec 32}

/-- A tile below the diagonal: the union of the two tables' tiles. -/
theorem tile_below (jt half : ℕ) (inb : ∀ a, ![128 * jt, 128 * half] a + S128x128.size a ≤ S768x256.size a) (d : Fin 6) (e : Fin 6) (he : e.val = jt)
    (hd : jt + d.val = 2 * u.val + half) (h0 : 0 < d.val) (t v : Vec Ideal S1x128x128 .i32)
    (ht : ∀ r c, t (ix3 0 r c) = x11 (ix3 d r c)) (hv : ∀ r c, v (ix3 0 r c) = x12 (ix3 e r c)) (x : S128x128.Idx) :
    (shapeCast S128x128 (ori (shapeCast S128x128 t shapeCasts_S1x128x128_S128x128) (shapeCast S128x128 v shapeCasts_S1x128x128_S128x128))
      shapeCasts_S128x128_S128x128 : IVec S128x128 32) x
      = tileWord u x11 x12 ((Rect.unit (s := S768x256) ![128 * jt, 128 * half] S128x128.size inb).emb x) := by
  obtain ⟨r, c, rfl⟩ : ∃ (r c : Fin 128), x = ix2 r c := ⟨x 0, x 1, eq_ix2 x⟩
  pointwise []
  have hr := r.isLt
  rw [tileWord_below u (tile_emb0 r c) (tile_emb1 r c) d e he hd (by omega), ht, hv]
  rfl

/-- A tile on the diagonal: the same where the key is not after the query. -/
theorem tile_diag (jt half : ℕ) (inb : ∀ a, ![128 * jt, 128 * half] a + S128x128.size a ≤ S768x256.size a) (e : Fin 6) (he : e.val = jt)
    (hd : jt = 2 * u.val + half) (t v : Vec Ideal S1x128x128 .i32)
    (ht : ∀ r c, t (ix3 0 r c) = x11 (ix3 0 r c)) (hv : ∀ r c, v (ix3 0 r c) = x12 (ix3 e r c)) (x : S128x128.Idx) :
    (shapeCast S128x128 (select (cmpi .sge (iota .tc S128x128 32 [1] iota_S128x128_d1_w32) (iota .tc S128x128 32 [0] iota_S128x128_d0_w32))
        (ori (shapeCast S128x128 t shapeCasts_S1x128x128_S128x128) (shapeCast S128x128 v shapeCasts_S1x128x128_S128x128)) (broadcast S128x128 0#32))
      shapeCasts_S128x128_S128x128 : IVec S128x128 32) x
      = tileWord u x11 x12 ((Rect.unit (s := S768x256) ![128 * jt, 128 * half] S128x128.size inb).emb x) := by
  obtain ⟨r, c, rfl⟩ : ∃ (r c : Fin 128), x = ix2 r c := ⟨x 0, x 1, eq_ix2 x⟩
  pointwise []
  rw [ht, hv, sel_lanes]
  by_cases hrc : r.val ≤ c.val
  · rw [tileWord_below u (tile_emb0 r c) (tile_emb1 r c) 0 e he (by simpa using hd) (by simpa using hrc),
      if_pos hrc]
    rfl
  · rw [tileWord_zero u (tile_emb0 r c) (tile_emb1 r c) (by omega), if_neg hrc]

/-- A buffer written by tiles of the mask, covering what is read of it, holds the mask. -/
theorem read_mask {sp : Space} {v : View sig .tc sp S768x256 .i32} {L : List (View.Piece (Elt Ideal) S768x256 .i32)}
    (h : View.PiecesOf (e := .i32) (tileWord u x11 x12) L) (f : v.ty.Contents (Elt Ideal)) {n : ℕ}
    (hc : ∀ y : S768x256.Idx, (y 0).val < n → ∃ p ∈ L, y ∈ p.1.set) (y : S768x256.Idx) (hy : (y 0).val < n) :
    v.read (Elt Ideal) (v.writes (Elt Ideal) f L) y = tileWord u x11 x12 y :=
  Trip.read_writes_of h f y (hc y hy)

/-- A tile above the diagonal: nothing. -/
theorem tile_above (jt half : ℕ) (inb : ∀ a, ![128 * jt, 128 * half] a + S128x128.size a ≤ S768x256.size a) (hd : 2 * u.val + half < jt) (x : S128x128.Idx) :
    (shapeCast S128x128 (broadcast S128x128 0#32) shapeCasts_S128x128_S128x128 : IVec S128x128 32) x
      = tileWord u x11 x12 ((Rect.unit (s := S768x256) ![128 * jt, 128 * half] S128x128.size inb).emb x) := by
  obtain ⟨r, c, rfl⟩ : ∃ (r c : Fin 128), x = ix2 r c := ⟨x 0, x 1, eq_ix2 x⟩
  pointwise []
  rw [tileWord_zero u (tile_emb0 r c) (tile_emb1 r c) (Or.inl hd)]

end Tiles

end Cert.KernelIdeal.Mask

end
-- ==== Proof.OutBlk.lean ====
module

public import proofs.«01_k».proof.Proof.Mask

@[expose] public section

set_option maxRecDepth 16384

noncomputable section

namespace Cert.KernelIdeal.Out

open Idealize.ShloMosaic Idealize.ShloMosaic.TcCoe Idealize.ShloMosaic.Tactic
open Cert.KernelIdeal Cert.KernelIdeal.Gen Cert.KernelIdeal.Head Cert.KernelIdeal.Mask
open Cert.Row Cert.Spec

variable (A : Args) (b : Fin 2) (u : Fin 3)

/-- One output block: column `96 h + d` of row `i` is the result at query `i` of the block, head `h`, coordinate `d`. -/
def outBlk (y : S1x256x2880.Idx) : EReal :=
  out A b (qpos u (y 1)) ⟨(y 2).val / 96, by have h : (y 2).val < 2880 := (y 2).isLt; omega⟩ ⟨(y 2).val % 96, Nat.mod_lt _ (by decide)⟩

/-- The output block is the transposed result, transposed back. -/
theorem outBlk_eq {y : S1x256x2880.Idx} {z : S2880x256.Idx} (h0 : (z 0).val = (y 2).val) (h1 : (z 1).val = (y 1).val) :
    otOf A b u z = outBlk A b u y := by
  unfold otOf outBlk
  congr 1
  · congr 1; exact Fin.ext h1
  · exact Fin.ext (by simp only [h0])
  · exact Fin.ext (by simp only [h0])

section Pieces

variable {sp : Space} {v : View sig .tc sp S2880x256 .bf16} {f : v.ty.Contents (Elt Ideal)}

/-- A column slice of 128 stored from the transposed result. -/
theorem piece128 (hf : ∀ z, v.read (Elt Ideal) f z = otOf A b u z) (col : ℕ) (inb17 : ∀ a, ![col, 0] a + S128x256.size a ≤ S2880x256.size a)
    (inb : ∀ a, ![0, 0, col] a + S1x256x128.size a ≤ S1x256x2880.size a) (x : S1x256x128.Idx) :
    (shapeCast S1x256x128 (transpose S256x128 [1, 0] (View.readAt (Elt Ideal) v (Rect.unit (s := S2880x256) ![col, 0] S128x256.size inb17).toLoadRect f) transposes_S128x256_p1_0_S256x128)
      shapeCasts_S256x128_S1x256x128 : FVec Ideal S1x256x128 .bf16) x = outBlk A b u ((Rect.unit (s := S1x256x2880) ![0, 0, col] S1x256x128.size inb).emb x) := by
  obtain ⟨z, i, c, rfl⟩ : ∃ (z : Fin 1) (i : Fin 256) (c : Fin 128), x = ix3 z i c := ⟨x 0, x 1, x 2, eq_ix3 x⟩
  pointwise []
  have hc : col + c.val < 2880 := by have := inb 2; have hc := c.isLt; simp [S1x256x128, S1x256x2880] at this; omega
  rw [readAt_at v inb17 f (ix2 c i) (ix2 ⟨col + c.val, hc⟩ i) (fun a => by match a with | ⟨0, _⟩ => rfl | ⟨1, _⟩ => exact Nat.zero_add _), hf]
  exact outBlk_eq A b u (Rect.idx_unit_val (s := S1x256x2880) _ _ inb (ix3 z i c) 2).symm
    ((Rect.idx_unit_val (s := S1x256x2880) _ _ inb (ix3 z i c) 1).trans (Nat.zero_add _)).symm

/-- The last column slice, of 64. -/
theorem piece64 (hf : ∀ z, v.read (Elt Ideal) f z = otOf A b u z) (col : ℕ) (inb17 : ∀ a, ![col, 0] a + S64x256.size a ≤ S2880x256.size a)
    (inb : ∀ a, ![0, 0, col] a + S1x256x64.size a ≤ S1x256x2880.size a) (x : S1x256x64.Idx) :
    (shapeCast S1x256x64 (transpose S256x64 [1, 0] (View.readAt (Elt Ideal) v (Rect.unit (s := S2880x256) ![col, 0] S64x256.size inb17).toLoadRect f) transposes_S64x256_p1_0_S256x64)
      shapeCasts_S256x64_S1x256x64 : FVec Ideal S1x256x64 .bf16) x = outBlk A b u ((Rect.unit (s := S1x256x2880) ![0, 0, col] S1x256x64.size inb).emb x) := by
  obtain ⟨z, i, c, rfl⟩ : ∃ (z : Fin 1) (i : Fin 256) (c : Fin 64), x = ix3 z i c := ⟨x 0, x 1, x 2, eq_ix3 x⟩
  pointwise []
  have hc : col + c.val < 2880 := by have := inb 2; have hc := c.isLt; simp [S1x256x64, S1x256x2880] at this; omega
  rw [readAt_at v inb17 f (ix2 c i) (ix2 ⟨col + c.val, hc⟩ i) (fun a => by match a with | ⟨0, _⟩ => rfl | ⟨1, _⟩ => exact Nat.zero_add _), hf]
  exact outBlk_eq A b u (Rect.idx_unit_val (s := S1x256x2880) _ _ inb (ix3 z i c) 2).symm
    ((Rect.idx_unit_val (s := S1x256x2880) _ _ inb (ix3 z i c) 1).trans (Nat.zero_add _)).symm

end Pieces

theorem ex_head {α : Type} {P : α → Prop} {a : α} {L : List α} (h : P a) : ∃ p ∈ a :: L, P p := ⟨a, List.mem_cons_self, h⟩
theorem ex_tail {α : Type} {P : α → Prop} {a : α} {L : List α} (h : ∃ p ∈ L, P p) : ∃ p ∈ a :: L, P p := by
  obtain ⟨p, hp, h⟩ := h
  exact ⟨p, List.mem_cons_of_mem _ hp, h⟩

end Cert.KernelIdeal.Out

end
-- ==== Proof.Words.lean ====
module

public import proofs.«01_k».proof.Proof.Mask
public import proofs.«01_k».proof.Proof.KernelIdealRunA

@[expose] public section

set_option maxRecDepth 16384

noncomputable section

namespace Cert.KernelIdeal.Words

open Idealize.ShloMosaic Idealize.ShloMosaic.TcCoe Idealize.ShloMosaic.Tactic
open Cert.KernelIdeal Cert.KernelIdeal.Gen Cert.KernelIdeal.Head Cert.KernelIdeal.Mask
open Cert.Row Cert.Spec

/-- A 32-bit number is `128 r + l` exactly when its high part, an arithmetic shift by seven, is `r`, and its low seven bits are `l`. -/
theorem split_num (x : BitVec 32) (r : Fin 8) (l : Fin 128) :
    (BitVec.ofNat 32 r.val = IntOp.shrsi .vector x 7#32 ∧ BitVec.ofNat 32 l.val = IntOp.andi x 127#32) ↔ x = BitVec.ofNat 32 (128 * r.val + l.val) := by
  have hr := r.isLt
  have hl := l.isLt
  have hx := x.isLt
  have e1 : IntOp.shrsi .vector x 7#32 = x.sshiftRight 7 := by
    unfold IntOp.shrsi
    rw [if_pos (by decide)]
    rfl
  have e2 : (IntOp.andi x 127#32).toNat = x.toNat % 128 := by
    unfold IntOp.andi
    rw [BitVec.toNat_and]
    exact Nat.and_two_pow_sub_one_eq_mod x.toNat 7
  rw [e1]
  constructor
  · rintro ⟨h1, h2⟩
    have h1' := congrArg BitVec.toInt h1
    rw [BitVec.toInt_sshiftRight] at h1'
    have h2' := congrArg BitVec.toNat h2
    rw [e2] at h2'
    apply BitVec.eq_of_toNat_eq
    simp only [BitVec.toNat_ofNat] at h2' ⊢
    rw [Int.shiftRight_eq_div_pow, BitVec.toInt_eq_toNat_cond, BitVec.toInt_eq_toNat_cond] at h1'
    simp only [BitVec.toNat_ofNat] at h1'
    norm_num at h1' h2' ⊢
    split at h1' <;> split at h1' <;> omega
  · intro h
    subst h
    constructor
    · apply BitVec.eq_of_toInt_eq
      rw [BitVec.toInt_sshiftRight, Int.shiftRight_eq_div_pow, BitVec.toInt_eq_toNat_cond, BitVec.toInt_eq_toNat_cond]
      simp only [BitVec.toNat_ofNat]
      norm_num
      split <;> split <;> omega
    · apply BitVec.eq_of_toNat_eq
      rw [e2]
      simp only [BitVec.toNat_ofNat]
      omega

/-- A comparison taken as a number is one or zero. -/
theorem num_eq (a b : BitVec 32) :
    FloatOps.sitofp (F := Ideal) FTy.f32 (BitVec.setWidth 32 (IntOp.cmpi .eq a b)) = if a = b then (1 : EReal) else 0 := by
  by_cases h : a = b
  · subst h
    simp [IntOp.cmpi, FloatOps.sitofp]
  · have hb : (a == b) = false := by simpa using h
    rw [if_neg h]
    simp only [IntOp.cmpi, hb]
    simp [FloatOps.sitofp]

theorem half_eq : Ideal.ofBits FTy.f32 1056964608#32 = ((1 / 2 : ℝ) : EReal) := by
  simp [Ideal.ofBits, Ideal.ieee]
  rw [← EReal.coe_mul]
  norm_num

/-- A sum of products of ones and zeros is more than a half exactly when some product is one. -/
theorem half_lt {n : ℕ} (P Q : Fin n → Prop) [DecidablePred P] [DecidablePred Q] :
    (Ideal.ofBits FTy.f32 1056964608#32 < ∑ x, (if P x then (1 : EReal) else 0) * (if Q x then 1 else 0)) ↔ ∃ x, P x ∧ Q x := by
  rw [half_eq]
  constructor
  · intro h
    by_contra hn
    have : ∑ x, (if P x then (1 : EReal) else 0) * (if Q x then 1 else 0) = 0 := Finset.sum_eq_zero fun x _ => by
      by_cases hp : P x
      · rw [if_neg (fun q => hn ⟨x, hp, q⟩), mul_zero]
      · rw [if_neg hp, zero_mul]
    rw [this] at h
    exact absurd h (not_lt.mpr (by exact_mod_cast (by norm_num : (0 : ℝ) ≤ 1 / 2)))
  · rintro ⟨x, hp, hq⟩
    have h1 : (1 : EReal) ≤ ∑ x, (if P x then (1 : EReal) else 0) * (if Q x then 1 else 0) := by
      have := Finset.single_le_sum (f := fun x => (if P x then (1 : EReal) else 0) * (if Q x then 1 else 0))
        (fun i _ => by split <;> split <;> simp) (Finset.mem_univ x)
      simpa [hp, hq] using this
    exact lt_of_lt_of_le (by exact_mod_cast (by norm_num : (1 / 2 : ℝ) < 1)) h1

/-- One head's step on the slash words: its bit where some entry of the row is the number. -/
def stepS (w : BitVec 32) (row : Vec Ideal S1x1x320 .i32) : IVec S8x128 32 :=
  select (cmpf .ogt (matmul (F := Ideal) dot_S8x320_S128x320_S8x128_1_1_0_0_n_n none
      (truncf .bf16 (sitofp (F := Ideal) .f32 (extui 32 (cmpi .eq (iota .tc S8x320 32 [0] iota_S8x320_d0_w32)
        (broadcastTo S8x320 (shrsi (shapeCast S1x320 row shapeCasts_S1x1x320_S1x320) (broadcast S1x320 7#32)) broadcasts_S1x320_S8x320)) natLt_1_32)) bitsLt_bf16_f32)
      (truncf .bf16 (sitofp (F := Ideal) .f32 (extui 32 (cmpi .eq (iota .tc S128x320 32 [0] iota_S128x320_d0_w32)
        (broadcastTo S128x320 (andi (shapeCast S1x320 row shapeCasts_S1x1x320_S1x320) (broadcast S1x320 127#32)) broadcasts_S1x320_S128x320)) natLt_1_32)) bitsLt_bf16_f32)
      (constant S8x128 .f32 0x00000000#32)) (broadcast S8x128 (Scalar.ofBits .f32 0x3F000000#32)))
    (broadcast S8x128 w) (broadcast S8x128 0#32)

theorem stepS_apply (w : BitVec 32) (row : Vec Ideal S1x1x320 .i32) (r : Fin 8) (l : Fin 128) :
    stepS w row (ix2 r l) = if ∃ n : Fin 320, row (ix3 0 0 n) = BitVec.ofNat 32 (128 * r.val + l.val) then w else 0#32 := by
  pointwise [stepS]
  simp only [num_eq]
  have e := half_lt (fun x : Fin 320 => BitVec.ofNat 32 r.val = IntOp.shrsi .vector (row (ix3 0 0 x)) 7#32)
    (fun x => BitVec.ofNat 32 l.val = IntOp.andi (row (ix3 0 0 x)) 127#32)
  simp only [split_num] at e
  by_cases h : ∃ n : Fin 320, row (ix3 0 0 n) = BitVec.ofNat 32 (128 * r.val + l.val)
  · rw [if_pos h]; exact if_pos (e.mpr h)
  · rw [if_neg h]; exact if_neg (mt e.mp h)

/-- One head's step on the vertical words: its bit where some entry of the row is the number. -/
def stepV (w : BitVec 32) (row : Vec Ideal S1x1x112 .i32) : IVec S8x128 32 :=
  select (cmpf .ogt (matmul (F := Ideal) dot_S8x112_S128x112_S8x128_1_1_0_0_n_n none
      (truncf .bf16 (sitofp (F := Ideal) .f32 (extui 32 (cmpi .eq (iota .tc S8x112 32 [0] iota_S8x112_d0_w32)
        (broadcastTo S8x112 (shrsi (shapeCast S1x112 row shapeCasts_S1x1x112_S1x112) (broadcast S1x112 7#32)) broadcasts_S1x112_S8x112)) natLt_1_32)) bitsLt_bf16_f32)
      (truncf .bf16 (sitofp (F := Ideal) .f32 (extui 32 (cmpi .eq (iota .tc S128x112 32 [0] iota_S128x112_d0_w32)
        (broadcastTo S128x112 (andi (shapeCast S1x112 row shapeCasts_S1x1x112_S1x112) (broadcast S1x112 127#32)) broadcasts_S1x112_S128x112)) natLt_1_32)) bitsLt_bf16_f32)
      (constant S8x128 .f32 0x00000000#32)) (broadcast S8x128 (Scalar.ofBits .f32 0x3F000000#32)))
    (broadcast S8x128 w) (broadcast S8x128 0#32)

theorem stepV_apply (w : BitVec 32) (row : Vec Ideal S1x1x112 .i32) (r : Fin 8) (l : Fin 128) :
    stepV w row (ix2 r l) = if ∃ n : Fin 112, row (ix3 0 0 n) = BitVec.ofNat 32 (128 * r.val + l.val) then w else 0#32 := by
  pointwise [stepV]
  simp only [num_eq]
  have e := half_lt (fun x : Fin 112 => BitVec.ofNat 32 r.val = IntOp.shrsi .vector (row (ix3 0 0 x)) 7#32)
    (fun x => BitVec.ofNat 32 l.val = IntOp.andi (row (ix3 0 0 x)) 127#32)
  simp only [split_num] at e
  by_cases h : ∃ n : Fin 112, row (ix3 0 0 n) = BitVec.ofNat 32 (128 * r.val + l.val)
  · rw [if_pos h]; exact if_pos (e.mpr h)
  · rw [if_neg h]; exact if_neg (mt e.mp h)

/-- The words collected from the first `n` heads: each head contributes its bit at the numbers in its row. -/
def acc (st : Fin 30 → IVec S8x128 32) : (n : ℕ) → n ≤ 30 → IVec S8x128 32
  | 0, _ => broadcast S8x128 0#32
  | n + 1, h => ori (acc st n (Nat.le_of_succ_le h)) (st ⟨n, h⟩)

/-- A bit belongs to one head. -/
theorem has_bit (h h' : Fin 30) : has h (bit h') ↔ h = h' := by
  revert h h'
  unfold has bit Scalar.shli
  decide +kernel

/-- Head `h` is recorded in the collected words at `y` exactly when it is among the first `n` heads and its row names `y`. -/
theorem has_acc (st : Fin 30 → IVec S8x128 32) (P : Fin 30 → Prop) [DecidablePred P] (y : S8x128.Idx)
    (hst : ∀ h, st h y = if P h then bit h else 0#32) (h : Fin 30) :
    ∀ (n : ℕ) (hn : n ≤ 30), has h (acc st n hn y) ↔ (h.val < n ∧ P h) := by
  intro n
  induction n with
  | zero => intro hn; exact iff_of_false (has_zero h) (fun q => absurd q.1 (Nat.not_lt_zero _))
  | succ n ih =>
    intro hn
    have e : acc st (n + 1) hn y = acc st n (Nat.le_of_succ_le hn) y ||| st ⟨n, hn⟩ y := rfl
    rw [e, has_or, ih, hst]
    by_cases hp : P ⟨n, hn⟩
    · rw [if_pos hp, has_bit]
      constructor
      · rintro (q | q)
        · exact ⟨by omega, q.2⟩
        · subst q; exact ⟨Nat.lt_succ_self _, hp⟩
      · rintro ⟨q1, q2⟩
        by_cases q : h.val = n
        · exact Or.inr (Fin.ext q)
        · exact Or.inl ⟨by omega, q2⟩
    · rw [if_neg hp]
      constructor
      · rintro (q | q)
        · exact ⟨by omega, q.2⟩
        · exact absurd q (has_zero h)
      · rintro ⟨q1, q2⟩
        by_cases q : h.val = n
        · exact absurd (by rwa [show h = ⟨n, hn⟩ from Fin.ext q] at q2) hp
        · exact Or.inl ⟨by omega, q2⟩

theorem rowS_inb (k : Fin 30) : ∀ a, (![0, k.val, 0] : Fin 3 → ℕ) a + S1x1x320.size a ≤ S1x30x320.size a := by
  revert k; decide +kernel

theorem rowV_inb (k : Fin 30) : ∀ a, (![0, k.val, 0] : Fin 3 → ℕ) a + S1x1x112.size a ≤ S1x30x112.size a := by
  revert k; decide +kernel

def rowS (arg9 : Memref sig .tc .vmem S1x30x320 .i32) (harg9 : arg9.IsWhole) (x9 : Vec Ideal S1x30x320 .i32) (k : Fin 30) : Vec Ideal S1x1x320 .i32 :=
  View.readAt (Elt Ideal) arg9.view (Rect.unit (s := S1x30x320) ![0, k.val, 0] S1x1x320.size (rowS_inb k)).toLoadRect (harg9.unread x9)

def rowV (arg8 : Memref sig .tc .vmem S1x30x112 .i32) (harg8 : arg8.IsWhole) (x8 : Vec Ideal S1x30x112 .i32) (k : Fin 30) : Vec Ideal S1x1x112 .i32 :=
  View.readAt (Elt Ideal) arg8.view (Rect.unit (s := S1x30x112) ![0, k.val, 0] S1x1x112.size (rowV_inb k)).toLoadRect (harg8.unread x8)

theorem rowS_apply (arg9 : Memref sig .tc .vmem S1x30x320 .i32) (harg9 : arg9.IsWhole) (x9 : Vec Ideal S1x30x320 .i32) (k : Fin 30) (n : Fin 320) : rowS arg9 harg9 x9 k (ix3 0 0 n) = x9 (ix3 0 k n) := by
  unfold rowS
  refine (readAt_at (Val := Elt Ideal) arg9.view (rowS_inb k) (harg9.unread x9) (ix3 0 0 n) (ix3 0 k n) (fun a => ?_)).trans ?_
  · match a with
    | ⟨0, _⟩ => rfl
    | ⟨1, _⟩ => rfl
    | ⟨2, _⟩ => exact Nat.zero_add _
  · exact congrFun (harg9.read_unread _) _

theorem rowV_apply (arg8 : Memref sig .tc .vmem S1x30x112 .i32) (harg8 : arg8.IsWhole) (x8 : Vec Ideal S1x30x112 .i32) (k : Fin 30) (n : Fin 112) : rowV arg8 harg8 x8 k (ix3 0 0 n) = x8 (ix3 0 k n) := by
  unfold rowV
  refine (readAt_at (Val := Elt Ideal) arg8.view (rowV_inb k) (harg8.unread x8) (ix3 0 0 n) (ix3 0 k n) (fun a => ?_)).trans ?_
  · match a with
    | ⟨0, _⟩ => rfl
    | ⟨1, _⟩ => rfl
    | ⟨2, _⟩ => exact Nat.zero_add _
  · exact congrFun (harg8.read_unread _) _

/-- The slash words the first block of a batch computes are the collection over the thirty heads. -/
theorem slash_words (c : Dev nD) (arg9) (harg9) (x9) :
    Run.runA.sl.v819 (F := Ideal) c arg9 harg9 x9 = acc (fun k => stepS (bit k) (rowS arg9 harg9 x9 k)) 30 le_rfl := by sl_kernel_rfl

/-- The same for the vertical words. -/
theorem vert_words (c : Dev nD) (arg8) (harg8) (x8) :
    Run.runA.sl.v1512 (F := Ideal) c arg8 harg8 x8 = acc (fun k => stepV (bit k) (rowV arg8 harg8 x8 k)) 30 le_rfl := by sl_kernel_rfl

/-- Head `h` is recorded in the slash words at number `128 r + l` exactly when some entry of its row is that number. -/
theorem slash_has (c : Dev nD) (arg9) (harg9) (x9) (h : Fin 30) (r : Fin 8) (l : Fin 128) :
    has h (Run.runA.sl.v819 (F := Ideal) c arg9 harg9 x9 (ix2 r l)) ↔ ∃ n : Fin 320, x9 (ix3 0 h n) = BitVec.ofNat 32 (128 * r.val + l.val) := by
  rw [slash_words, has_acc _ (fun h => ∃ n : Fin 320, x9 (ix3 0 h n) = BitVec.ofNat 32 (128 * r.val + l.val)) (ix2 r l)
    (fun k => by simp only [stepS_apply, rowS_apply]) h 30 le_rfl]
  exact ⟨fun q => q.2, fun q => ⟨h.isLt, q⟩⟩

theorem vert_has (c : Dev nD) (arg8) (harg8) (x8) (h : Fin 30) (r : Fin 8) (l : Fin 128) :
    has h (Run.runA.sl.v1512 (F := Ideal) c arg8 harg8 x8 (ix2 r l)) ↔ ∃ n : Fin 112, x8 (ix3 0 h n) = BitVec.ofNat 32 (128 * r.val + l.val) := by
  rw [vert_words, has_acc _ (fun h => ∃ n : Fin 112, x8 (ix3 0 h n) = BitVec.ofNat 32 (128 * r.val + l.val)) (ix2 r l)
    (fun k => by simp only [stepV_apply, rowV_apply]) h 30 le_rfl]
  exact ⟨fun q => q.2, fun q => ⟨h.isLt, q⟩⟩

end Cert.KernelIdeal.Words

end
-- ==== Proof.Tables.lean ====
module

public import proofs.«01_k».proof.Proof.OutBlk
public import proofs.«01_k».proof.Proof.Words
public import Idealize.ShloMosaic.Lib.Ring

@[expose] public section

set_option maxRecDepth 16384

noncomputable section

namespace Cert.KernelIdeal.Tables

open Idealize.ShloMosaic Idealize.ShloMosaic.TcCoe Idealize.ShloMosaic.Tactic
open Cert.KernelIdeal Cert.KernelIdeal.Gen Cert.KernelIdeal.Head Cert.KernelIdeal.Mask Cert.KernelIdeal.Words
open Cert.Row Cert.Spec

/-- A row of words laid over the lanes, each row rotated one lane further than the one above it. -/
def skew (row : IVec S1x128 32) : IVec S128x128 32 :=
  dynamicRotate 1 0#32 (some (1, 0)) (broadcastTo S128x128 (shapeCast S1x128 row shapeCasts_S1x128_S1x128) broadcasts_S1x128_S128x128) rotates_S128x128_d1s1a0

theorem skew_apply (row : IVec S1x128 32) (r c : Fin 128) :
    skew row (ix2 r c) = row (ix2 0 ⟨(c.val + 128 - r.val) % 128, Nat.mod_lt _ (by decide)⟩) := by
  unfold skew dynamicRotate
  have e : (fun b : Fin S128x128.rank => if b = (1 : Fin S128x128.rank) then (⟨((ix2 r c b).val + S128x128.size b - (BitVec.toNat 0#32 + 1 * (ix2 r c 0).val) % S128x128.size b) % S128x128.size b, Nat.mod_lt _ (Fin.pos (ix2 r c b))⟩ : Fin (S128x128.size b)) else ix2 r c b)
      = ix2 r ⟨(c.val + 128 - r.val) % 128, Nat.mod_lt _ (by decide)⟩ := by
    funext b
    match b with
    | ⟨0, _⟩ => rfl
    | ⟨1, _⟩ =>
      apply Fin.ext
      have hr := r.isLt
      show (c.val + 128 - (0 + 1 * r.val) % 128) % 128 = (c.val + 128 - r.val) % 128
      rw [Nat.zero_add, Nat.one_mul, Nat.mod_eq_of_lt hr]
  show broadcastTo S128x128 (shapeCast S1x128 row shapeCasts_S1x128_S1x128) broadcasts_S1x128_S128x128 _ = _
  refine (congrArg _ e).trans ?_
  pointwise []

/-- A tile chooses by the diagonal between two tiles. -/
def tile (hi lo : IVec S128x128 32) : IVec S1x128x128 32 :=
  shapeCast S1x128x128 (select (cmpi .sge (iota .tc S128x128 32 [1] iota_S128x128_d1_w32) (iota .tc S128x128 32 [0] iota_S128x128_d0_w32)) hi lo) shapeCasts_S128x128_S1x128x128

theorem tile_apply (hi lo : IVec S128x128 32) (z : Fin 1) (r c : Fin 128) :
    tile hi lo (ix3 z r c) = if r.val ≤ c.val then hi (ix2 r c) else lo (ix2 r c) := by
  pointwise [tile]
  exact sel_lanes c r _ _

theorem slice_apply (d : ℕ) (hd : d < 8) (W : IVec S8x128 32) (hs) (l : Fin 128) :
    extractStridedSlice S1x128 ![d, 0] W hs (ix2 0 l) = W (ix2 ⟨d, hd⟩ l) := by
  pointwise []

/-- Where a tile's element lies in the table. -/
theorem emb_tile (d : Fin 6) (inb : ∀ a, ![d.val, 0, 0] a + S1x128x128.size a ≤ S6x128x128.size a) (z : Fin 1) (r c : Fin 128) :
    (Rect.unit (s := S6x128x128) ![d.val, 0, 0] S1x128x128.size inb).emb (ix3 z r c) = ix3 d r c := by
  funext a
  apply Fin.ext
  refine (Rect.idx_unit_val (s := S6x128x128) _ _ inb (ix3 z r c) a).trans ?_
  match a with
  | ⟨0, _⟩ => show d.val + z.val = d.val; omega
  | ⟨1, _⟩ => exact Nat.zero_add _
  | ⟨2, _⟩ => exact Nat.zero_add _

/-- The table of slash tiles from the slash words: tile `d` at (r, c) is the word of the distance `128 d + c - r`, nothing where that is negative. -/
def slashTab (W : IVec S8x128 32) (y : S6x128x128.Idx) : BitVec 32 :=
  if (y 1).val ≤ (y 2).val then W (ix2 ⟨(y 0).val, by have h : (y 0).val < 6 := (y 0).isLt; omega⟩ ⟨((y 2).val + 128 - (y 1).val) % 128, Nat.mod_lt _ (by decide)⟩)
  else if (y 0).val = 0 then 0#32
  else W (ix2 ⟨(y 0).val - 1, by have h : (y 0).val < 6 := (y 0).isLt; omega⟩ ⟨((y 2).val + 128 - (y 1).val) % 128, Nat.mod_lt _ (by decide)⟩)

/-- The table of vertical tiles from the vertical words: tile `jt` at (r, c) is the word of the position `128 jt + r`. -/
def vertTab (W : IVec S8x128 32) (y : S6x128x128.Idx) : BitVec 32 :=
  W (ix2 ⟨(y 0).val, by have h : (y 0).val < 6 := (y 0).isLt; omega⟩ (y 1))

theorem slash_first (W : IVec S8x128 32) (hs : S8x128.Slices ![0, 0] S1x128) (inb : ∀ a, ![0, 0, 0] a + S1x128x128.size a ≤ S6x128x128.size a) (x : S1x128x128.Idx) :
    tile (skew (extractStridedSlice S1x128 ![0, 0] W hs)) (broadcast S128x128 0#32) x
      = slashTab W ((Rect.unit (s := S6x128x128) ![0, 0, 0] S1x128x128.size inb).emb x) := by
  obtain ⟨z, r, c, rfl⟩ : ∃ (z : Fin 1) (r c : Fin 128), x = ix3 z r c := ⟨x 0, x 1, x 2, eq_ix3 x⟩
  rw [emb_tile ⟨0, by decide⟩ inb, tile_apply, skew_apply, slice_apply 0 (by decide)]
  rfl

theorem slash_next (W : IVec S8x128 32) (d : ℕ) (hd : d + 1 < 6) (hs : S8x128.Slices ![d + 1, 0] S1x128) (hs' : S8x128.Slices ![d, 0] S1x128)
    (inb : ∀ a, ![d + 1, 0, 0] a + S1x128x128.size a ≤ S6x128x128.size a) (x : S1x128x128.Idx) :
    tile (skew (extractStridedSlice S1x128 ![d + 1, 0] W hs)) (skew (extractStridedSlice S1x128 ![d, 0] W hs')) x
      = slashTab W ((Rect.unit (s := S6x128x128) ![d + 1, 0, 0] S1x128x128.size inb).emb x) := by
  obtain ⟨z, r, c, rfl⟩ : ∃ (z : Fin 1) (r c : Fin 128), x = ix3 z r c := ⟨x 0, x 1, x 2, eq_ix3 x⟩
  rw [emb_tile ⟨d + 1, hd⟩ inb, tile_apply, skew_apply, skew_apply, slice_apply (d + 1) (by omega), slice_apply d (by omega)]
  rfl

theorem vert_piece (W : IVec S8x128 32) (d : ℕ) (hd : d < 6) (hs : S8x128.Slices ![d, 0] S1x128)
    (inb : ∀ a, ![d, 0, 0] a + S1x128x128.size a ≤ S6x128x128.size a) (x : S1x128x128.Idx) :
    (shapeCast S1x128x128 (transpose S128x128 [1, 0] (broadcastTo S128x128 (shapeCast S1x128 (extractStridedSlice S1x128 ![d, 0] W hs) shapeCasts_S1x128_S1x128) broadcasts_S1x128_S128x128) transposes_S128x128_p1_0_S128x128) shapeCasts_S128x128_S1x128x128 : IVec S1x128x128 32) x
      = vertTab W ((Rect.unit (s := S6x128x128) ![d, 0, 0] S1x128x128.size inb).emb x) := by
  obtain ⟨z, r, c, rfl⟩ : ∃ (z : Fin 1) (r c : Fin 128), x = ix3 z r c := ⟨x 0, x 1, x 2, eq_ix3 x⟩
  rw [emb_tile ⟨d, hd⟩ inb]
  pointwise []
  rfl

section Run

variable (c : Dev nD) (arg8 : Memref sig .tc .vmem S1x30x112 .i32) (harg8 : arg8.IsWhole) (arg9 : Memref sig .tc .vmem S1x30x320 .i32) (harg9 : arg9.IsWhole)
  (x8 : Vec Ideal S1x30x112 .i32) (x9 : Vec Ideal S1x30x320 .i32)

/-- The pieces stored in the slash table are its tiles. -/
theorem slash_pieces : View.PiecesOf (e := .i32) (slashTab (Run.runA.sl.v819 (F := Ideal) c arg9 harg9 x9)) (Run.runA.sl.H11_6 (F := Ideal) c arg9 harg9 x9) := by
  unfold Run.runA.sl.H11_6
  refine ⟨fun x => slash_next _ 4 (by decide) (by decide) (by decide) (by decide) x, ?_⟩
  refine ⟨fun x => slash_next _ 3 (by decide) (by decide) (by decide) (by decide) x, ?_⟩
  refine ⟨fun x => slash_next _ 2 (by decide) (by decide) (by decide) (by decide) x, ?_⟩
  refine ⟨fun x => slash_next _ 1 (by decide) (by decide) (by decide) (by decide) x, ?_⟩
  refine ⟨fun x => slash_next _ 0 (by decide) (by decide) (by decide) (by decide) x, ?_⟩
  refine ⟨fun x => slash_first _ (by decide) (by decide) x, ?_⟩
  exact trivial

theorem slash_cover (y : S6x128x128.Idx) : ∃ p ∈ Run.runA.sl.H11_6 (F := Ideal) c arg9 harg9 x9, y ∈ p.1.set :=
  View.cover_of_tiledBy _ ![1, 128, 128] (by sl_kernel_rfl) y

/-- The pieces stored in the vertical table are its tiles. -/
theorem vert_pieces : View.PiecesOf (e := .i32) (vertTab (Run.runA.sl.v1512 (F := Ideal) c arg8 harg8 x8)) (Run.runA.sl.H12_6 (F := Ideal) c arg8 harg8 x8) := by
  unfold Run.runA.sl.H12_6
  refine ⟨fun x => vert_piece (Run.runA.sl.v1512 (F := Ideal) c arg8 harg8 x8) 5 (by decide) (by decide) (by decide) x, ?_⟩
  refine ⟨fun x => vert_piece (Run.runA.sl.v1512 (F := Ideal) c arg8 harg8 x8) 4 (by decide) (by decide) (by decide) x, ?_⟩
  refine ⟨fun x => vert_piece (Run.runA.sl.v1512 (F := Ideal) c arg8 harg8 x8) 3 (by decide) (by decide) (by decide) x, ?_⟩
  refine ⟨fun x => vert_piece (Run.runA.sl.v1512 (F := Ideal) c arg8 harg8 x8) 2 (by decide) (by decide) (by decide) x, ?_⟩
  refine ⟨fun x => vert_piece (Run.runA.sl.v1512 (F := Ideal) c arg8 harg8 x8) 1 (by decide) (by decide) (by decide) x, ?_⟩
  refine ⟨fun x => vert_piece (Run.runA.sl.v1512 (F := Ideal) c arg8 harg8 x8) 0 (by decide) (by decide) (by decide) x, ?_⟩
  exact trivial

theorem vert_cover (y : S6x128x128.Idx) : ∃ p ∈ Run.runA.sl.H12_6 (F := Ideal) c arg8 harg8 x8, y ∈ p.1.set :=
  View.cover_of_tiledBy _ ![1, 128, 128] (by sl_kernel_rfl) y

/-- The two tables the first block of a batch builds from its lists are good. -/
theorem good (A : Args) (b : Fin 2) (h8 : ∀ h n, x8 (ix3 0 h n) = A.vert b h n) (h9 : ∀ h n, x9 (ix3 0 h n) = A.slash b h n) :
    Good A b (slashTab (Run.runA.sl.v819 (F := Ideal) c arg9 harg9 x9)) (vertTab (Run.runA.sl.v1512 (F := Ideal) c arg8 harg8 x8)) where
  toep := by
    intro d r l h
    have hd := d.isLt
    have hr := r.isLt
    have hl := l.isLt
    unfold slashHit
    simp only [← h9]
    show has h (if r.val ≤ l.val then Run.runA.sl.v819 (F := Ideal) c arg9 harg9 x9 (ix2 ⟨d.val, _⟩ ⟨(l.val + 128 - r.val) % 128, _⟩) else if d.val = 0 then 0#32 else Run.runA.sl.v819 (F := Ideal) c arg9 harg9 x9 (ix2 ⟨d.val - 1, _⟩ ⟨(l.val + 128 - r.val) % 128, _⟩)) ↔ _
    by_cases h1 : r.val ≤ l.val
    · rw [if_pos h1, slash_has]
      simp only
      rw [show 128 * d.val + (l.val + 128 - r.val) % 128 = 128 * d.val + l.val - r.val by omega]
      exact ⟨fun q => ⟨by omega, q⟩, fun q => q.2⟩
    · rw [if_neg h1]
      by_cases h2 : d.val = 0
      · rw [if_pos h2]
        exact ⟨fun q => absurd q (has_zero h), fun q => absurd q.1 (by omega)⟩
      · rw [if_neg h2, slash_has]
        simp only
        rw [show 128 * (d.val - 1) + (l.val + 128 - r.val) % 128 = 128 * d.val + l.val - r.val by omega]
        exact ⟨fun q => ⟨by omega, q⟩, fun q => q.2⟩
  vert := by
    intro d r l h
    unfold vertHit
    simp only [← h8]
    exact vert_has c arg8 harg8 x8 h _ r

end Run

/-- Where an element of a group's slab lies in a scale table. -/
theorem emb_slab (g : Fin 6) (inb : ∀ a, ![g.val, 0, 0] a + S1x768x128.size a ≤ S6x768x128.size a) (z : Fin 1) (j : Fin 768) (l : Fin 128) :
    (Rect.unit (s := S6x768x128) ![g.val, 0, 0] S1x768x128.size inb).emb (ix3 z j l) = ix3 g j l := by
  funext a
  apply Fin.ext
  refine (Rect.idx_unit_val (s := S6x768x128) _ _ inb (ix3 z j l) a).trans ?_
  match a with
  | ⟨0, _⟩ => show g.val + z.val = g.val; omega
  | ⟨1, _⟩ => exact Nat.zero_add _
  | ⟨2, _⟩ => exact Nat.zero_add _

theorem emb_slab_v (g : Fin 6) (inb : ∀ a, ![g.val, 0, 0] a + S1x96x768.size a ≤ S6x96x768.size a) (z : Fin 1) (d : Fin 96) (j : Fin 768) :
    (Rect.unit (s := S6x96x768) ![g.val, 0, 0] S1x96x768.size inb).emb (ix3 z d j) = ix3 g d j := by
  funext a
  apply Fin.ext
  refine (Rect.idx_unit_val (s := S6x96x768) _ _ inb (ix3 z d j) a).trans ?_
  match a with
  | ⟨0, _⟩ => show g.val + z.val = g.val; omega
  | ⟨1, _⟩ => exact Nat.zero_add _
  | ⟨2, _⟩ => exact Nat.zero_add _

/-- The table of key scales: group `g`'s scale at key `j`, times the constant, the same in every lane. -/
def ksTab (x5 : S1x768x6.Idx → EReal) (y : S6x768x128.Idx) : EReal := x5 (ix3 0 (y 1) (y 0)) * scaleLog2e

/-- The table of value scales. -/
def vsTab (x7 : S1x768x6.Idx → EReal) (y : S6x768x128.Idx) : EReal := x7 (ix3 0 (y 1) (y 0))

/-- The values, transposed. -/
def vTab (x6 : S1x6x768x96.Idx → EReal) (y : S6x96x768.Idx) : EReal := x6 (ix4 0 (y 0) (y 2) (y 1))

theorem ks_piece {sp : Space} (w : View sig .tc sp S1x768x6 .f32) (f : w.ty.Contents (Elt Ideal)) (x5 : S1x768x6.Idx → EReal) (hf : ∀ y, w.read (Elt Ideal) f y = x5 y)
    (g : ℕ) (hg : g < 6) (inb5 : ∀ a, ![0, 0, g] a + S1x768x1.size a ≤ S1x768x6.size a) (inb : ∀ a, ![g, 0, 0] a + S1x768x128.size a ≤ S6x768x128.size a) (x : S1x768x128.Idx) :
    k0_pay106 (F := Ideal) (View.readAt (Elt Ideal) w (Rect.unit (s := S1x768x6) ![0, 0, g] S1x768x1.size inb5).toLoadRect f) x
      = ksTab x5 ((Rect.unit (s := S6x768x128) ![g, 0, 0] S1x768x128.size inb).emb x) := by
  obtain ⟨z, j, l, rfl⟩ : ∃ (z : Fin 1) (j : Fin 768) (l : Fin 128), x = ix3 z j l := ⟨x 0, x 1, x 2, eq_ix3 x⟩
  rw [emb_slab ⟨g, hg⟩ inb]
  pointwise [k0_pay106]
  rw [readAt_at w inb5 f (ix3 0 j 0) (ix3 0 j ⟨g, hg⟩) (fun a => by match a with | ⟨0, _⟩ => rfl | ⟨1, _⟩ => exact Nat.zero_add _ | ⟨2, _⟩ => rfl), hf]
  exact congrArg (x5 (ix3 0 j ⟨g, hg⟩) * ·) (IdealRules.named_const.ideal_named_scalar _ _ _ _ rfl)

theorem vs_piece {sp : Space} (w : View sig .tc sp S1x768x6 .f32) (f : w.ty.Contents (Elt Ideal)) (x7 : S1x768x6.Idx → EReal) (hf : ∀ y, w.read (Elt Ideal) f y = x7 y)
    (g : ℕ) (hg : g < 6) (inb5 : ∀ a, ![0, 0, g] a + S1x768x1.size a ≤ S1x768x6.size a) (inb : ∀ a, ![g, 0, 0] a + S1x768x128.size a ≤ S6x768x128.size a) (x : S1x768x128.Idx) :
    k0_pay107 (F := Ideal) (View.readAt (Elt Ideal) w (Rect.unit (s := S1x768x6) ![0, 0, g] S1x768x1.size inb5).toLoadRect f) x
      = vsTab x7 ((Rect.unit (s := S6x768x128) ![g, 0, 0] S1x768x128.size inb).emb x) := by
  obtain ⟨z, j, l, rfl⟩ : ∃ (z : Fin 1) (j : Fin 768) (l : Fin 128), x = ix3 z j l := ⟨x 0, x 1, x 2, eq_ix3 x⟩
  rw [emb_slab ⟨g, hg⟩ inb]
  pointwise [k0_pay107]
  rw [readAt_at w inb5 f (ix3 0 j 0) (ix3 0 j ⟨g, hg⟩) (fun a => by match a with | ⟨0, _⟩ => rfl | ⟨1, _⟩ => exact Nat.zero_add _ | ⟨2, _⟩ => rfl), hf]
  rfl

theorem v_piece {sp : Space} (w : View sig .tc sp S1x6x768x96 .fp8e4m3) (f : w.ty.Contents (Elt Ideal)) (x6 : S1x6x768x96.Idx → EReal) (hf : ∀ y, w.read (Elt Ideal) f y = x6 y)
    (g : ℕ) (hg : g < 6) (inb6 : ∀ a, ![0, g, 0, 0] a + S1x1x768x96.size a ≤ S1x6x768x96.size a) (inb : ∀ a, ![g, 0, 0] a + S1x96x768.size a ≤ S6x96x768.size a) (x : S1x96x768.Idx) :
    k0_pay108 (F := Ideal) (View.readAt (Elt Ideal) w (Rect.unit (s := S1x6x768x96) ![0, g, 0, 0] S1x1x768x96.size inb6).toLoadRect f) x
      = vTab x6 ((Rect.unit (s := S6x96x768) ![g, 0, 0] S1x96x768.size inb).emb x) := by
  obtain ⟨z, d, j, rfl⟩ : ∃ (z : Fin 1) (d : Fin 96) (j : Fin 768), x = ix3 z d j := ⟨x 0, x 1, x 2, eq_ix3 x⟩
  rw [emb_slab_v ⟨g, hg⟩ inb]
  pointwise [k0_pay108]
  rw [readAt_at w inb6 f (ix4 0 0 j d) (ix4 0 ⟨g, hg⟩ j d) (fun a => by match a with | ⟨0, _⟩ => rfl | ⟨1, _⟩ => rfl | ⟨2, _⟩ => exact Nat.zero_add _ | ⟨3, _⟩ => exact Nat.zero_add _), hf]
  rfl

section Run

variable (c : Dev nD) (arg5 : Memref sig .tc .vmem S1x768x6 .f32) (harg5 : arg5.IsWhole) (arg6 : Memref sig .tc .vmem S1x6x768x96 .fp8e4m3) (harg6 : arg6.IsWhole)
  (arg7 : Memref sig .tc .vmem S1x768x6 .f32) (harg7 : arg7.IsWhole)
  (x5 : Vec Ideal S1x768x6 .f32) (x6 : Vec Ideal S1x6x768x96 .fp8e4m3) (x7 : Vec Ideal S1x768x6 .f32)

theorem ks_pieces : View.PiecesOf (e := .f32) (ksTab x5) (Run.runA.sl.H14_6 (F := Ideal) c arg5 harg5 x5) := by
  have hf := congrFun (harg5.read_unread x5)
  unfold Run.runA.sl.H14_6
  refine ⟨fun x => ks_piece arg5.view _ x5 hf 5 (by decide) (by decide) (by decide) x, ?_⟩
  refine ⟨fun x => ks_piece arg5.view _ x5 hf 4 (by decide) (by decide) (by decide) x, ?_⟩
  refine ⟨fun x => ks_piece arg5.view _ x5 hf 3 (by decide) (by decide) (by decide) x, ?_⟩
  refine ⟨fun x => ks_piece arg5.view _ x5 hf 2 (by decide) (by decide) (by decide) x, ?_⟩
  refine ⟨fun x => ks_piece arg5.view _ x5 hf 1 (by decide) (by decide) (by decide) x, ?_⟩
  refine ⟨fun x => ks_piece arg5.view _ x5 hf 0 (by decide) (by decide) (by decide) x, ?_⟩
  exact trivial

theorem ks_cover (y : S6x768x128.Idx) : ∃ p ∈ Run.runA.sl.H14_6 (F := Ideal) c arg5 harg5 x5, y ∈ p.1.set :=
  View.cover_of_tiledBy _ ![1, 768, 128] (by sl_kernel_rfl) y

theorem vs_pieces : View.PiecesOf (e := .f32) (vsTab x7) (Run.runA.sl.H15_6 (F := Ideal) c arg7 harg7 x7) := by
  have hf := congrFun (harg7.read_unread x7)
  unfold Run.runA.sl.H15_6
  refine ⟨fun x => vs_piece arg7.view _ x7 hf 5 (by decide) (by decide) (by decide) x, ?_⟩
  refine ⟨fun x => vs_piece arg7.view _ x7 hf 4 (by decide) (by decide) (by decide) x, ?_⟩
  refine ⟨fun x => vs_piece arg7.view _ x7 hf 3 (by decide) (by decide) (by decide) x, ?_⟩
  refine ⟨fun x => vs_piece arg7.view _ x7 hf 2 (by decide) (by decide) (by decide) x, ?_⟩
  refine ⟨fun x => vs_piece arg7.view _ x7 hf 1 (by decide) (by decide) (by decide) x, ?_⟩
  refine ⟨fun x => vs_piece arg7.view _ x7 hf 0 (by decide) (by decide) (by decide) x, ?_⟩
  exact trivial

theorem vs_cover (y : S6x768x128.Idx) : ∃ p ∈ Run.runA.sl.H15_6 (F := Ideal) c arg7 harg7 x7, y ∈ p.1.set :=
  View.cover_of_tiledBy _ ![1, 768, 128] (by sl_kernel_rfl) y

theorem v_pieces : View.PiecesOf (e := .bf16) (vTab x6) (Run.runA.sl.H16_6 (F := Ideal) c arg6 harg6 x6) := by
  have hf := congrFun (harg6.read_unread x6)
  unfold Run.runA.sl.H16_6
  refine ⟨fun x => v_piece arg6.view _ x6 hf 5 (by decide) (by decide) (by decide) x, ?_⟩
  refine ⟨fun x => v_piece arg6.view _ x6 hf 4 (by decide) (by decide) (by decide) x, ?_⟩
  refine ⟨fun x => v_piece arg6.view _ x6 hf 3 (by decide) (by decide) (by decide) x, ?_⟩
  refine ⟨fun x => v_piece arg6.view _ x6 hf 2 (by decide) (by decide) (by decide) x, ?_⟩
  refine ⟨fun x => v_piece arg6.view _ x6 hf 1 (by decide) (by decide) (by decide) x, ?_⟩
  refine ⟨fun x => v_piece arg6.view _ x6 hf 0 (by decide) (by decide) (by decide) x, ?_⟩
  exact trivial

theorem v_cover (y : S6x96x768.Idx) : ∃ p ∈ Run.runA.sl.H16_6 (F := Ideal) c arg6 harg6 x6, y ∈ p.1.set :=
  View.cover_of_tiledBy _ ![1, 96, 768] (by sl_kernel_rfl) y

end Run

end Cert.KernelIdeal.Tables

end
-- ==== Proof.CaseA.lean ====
module

public import proofs.«01_k».proof.Proof.Tables

@[expose] public section

set_option maxRecDepth 16384

noncomputable section

namespace Cert.KernelIdeal.CaseA

open Idealize.ShloMosaic Idealize.ShloMosaic.TcCoe Idealize.ShloMosaic.Tactic
open Cert.KernelIdeal Cert.KernelIdeal.Gen Cert.KernelIdeal.Head Cert.KernelIdeal.Mask Cert.KernelIdeal.Out Cert.KernelIdeal.Tables
open Cert.Row Cert.Spec

/-- A load of a tile of the slash table just written. -/
def slashTile (c : Dev nD) (arg9 : Memref sig .tc .vmem S1x30x320 .i32) (harg9 : arg9.IsWhole) (x9 : Vec Ideal S1x30x320 .i32) (arg11 : Memref sig .tc .vmem S6x128x128 .i32)
    (d : Fin 6) (inb : ∀ a, ![d.val, 0, 0] a + S1x128x128.size a ≤ S6x128x128.size a) : Vec Ideal S1x128x128 .i32 :=
  arg11.view.readCov (Run.runA.sl.H11_6 (F := Ideal) c arg9 harg9 x9) (Rect.unit (s := S6x128x128) ![d.val, 0, 0] S1x128x128.size inb).toLoadRect

/-- A load of a tile of the slash table just written. -/
theorem slash_load (c : Dev nD) (arg9 : Memref sig .tc .vmem S1x30x320 .i32) (harg9 : arg9.IsWhole) (x9 : Vec Ideal S1x30x320 .i32) (arg11 : Memref sig .tc .vmem S6x128x128 .i32)
    (d : Fin 6) (inb : ∀ a, ![d.val, 0, 0] a + S1x128x128.size a ≤ S6x128x128.size a) (r l : Fin 128) :
    slashTile c arg9 harg9 x9 arg11 d inb (ix3 0 r l)
      = (slashTab (Run.runA.sl.v819 (F := Ideal) c arg9 harg9 x9)) (ix3 d r l) := by
  unfold slashTile
  rw [View.readCov_eq_canon']
  have e : (Rect.unit (s := S6x128x128) ![d.val, 0, 0] S1x128x128.size inb).toLoadRect.idx (ix3 0 r l) = ix3 d r l := emb_tile d inb 0 r l
  refine (congrArg (View.canon _) e).trans ?_
  have := View.canon_append_of_piecesOf _ [] _ (slash_pieces c arg9 harg9 x9) (ix3 d r l) (slash_cover c arg9 harg9 x9 _)
  rwa [List.append_nil] at this

/-- A load of a tile of the vertical table just written. -/
def vertTile (c : Dev nD) (arg8 : Memref sig .tc .vmem S1x30x112 .i32) (harg8 : arg8.IsWhole) (x8 : Vec Ideal S1x30x112 .i32) (arg12 : Memref sig .tc .vmem S6x128x128 .i32)
    (d : Fin 6) (inb : ∀ a, ![d.val, 0, 0] a + S1x128x128.size a ≤ S6x128x128.size a) : Vec Ideal S1x128x128 .i32 :=
  arg12.view.readCov (Run.runA.sl.H12_6 (F := Ideal) c arg8 harg8 x8) (Rect.unit (s := S6x128x128) ![d.val, 0, 0] S1x128x128.size inb).toLoadRect

/-- A load of a tile of the vertical table just written. -/
theorem vert_load (c : Dev nD) (arg8 : Memref sig .tc .vmem S1x30x112 .i32) (harg8 : arg8.IsWhole) (x8 : Vec Ideal S1x30x112 .i32) (arg12 : Memref sig .tc .vmem S6x128x128 .i32)
    (d : Fin 6) (inb : ∀ a, ![d.val, 0, 0] a + S1x128x128.size a ≤ S6x128x128.size a) (r l : Fin 128) :
    vertTile c arg8 harg8 x8 arg12 d inb (ix3 0 r l)
      = (vertTab (Run.runA.sl.v1512 (F := Ideal) c arg8 harg8 x8)) (ix3 d r l) := by
  unfold vertTile
  rw [View.readCov_eq_canon']
  have e : (Rect.unit (s := S6x128x128) ![d.val, 0, 0] S1x128x128.size inb).toLoadRect.idx (ix3 0 r l) = ix3 d r l := emb_tile d inb 0 r l
  refine (congrArg (View.canon _) e).trans ?_
  have := View.canon_append_of_piecesOf _ [] _ (vert_pieces c arg8 harg8 x8) (ix3 d r l) (vert_cover c arg8 harg8 x8 _)
  rwa [List.append_nil] at this

variable (A : Args) (b : Fin 2)

/-- The blocks a batch's first point reads are the batch's arguments. -/
structure Reads (x2 : S1x30x256x96.Idx → EReal) (x3 : S1x30x256.Idx → EReal) (x4 : S1x6x768x96.Idx → EReal) (x5 : S1x768x6.Idx → EReal)
    (x6 : S1x6x768x96.Idx → EReal) (x7 : S1x768x6.Idx → EReal) (x8 : S1x30x112.Idx → BitVec 32) (x9 : S1x30x320.Idx → BitVec 32) : Prop where
  q : ∀ h i d, x2 (ix4 0 h i d) = A.q b (qpos 0 i) h d
  qs : ∀ h i, x3 (ix3 0 h i) = A.qs b (qpos 0 i) h
  k : ∀ g j d, x4 (ix4 0 g j d) = A.k b j g d
  ks : ∀ j g, x5 (ix3 0 j g) = A.ks b j g
  v : ∀ g j d, x6 (ix4 0 g j d) = A.v b j g d
  vs : ∀ j g, x7 (ix3 0 j g) = A.vs b j g
  vert : ∀ h n, x8 (ix3 0 h n) = A.vert b h n
  slash : ∀ h n, x9 (ix3 0 h n) = A.slash b h n

section Tiles

variable (c : Dev nD) (arg8 : Memref sig .tc .vmem S1x30x112 .i32) (harg8 : arg8.IsWhole) (arg9 : Memref sig .tc .vmem S1x30x320 .i32) (harg9 : arg9.IsWhole)
  (arg11 arg12 : Memref sig .tc .vmem S6x128x128 .i32) (x8 : Vec Ideal S1x30x112 .i32) (x9 : Vec Ideal S1x30x320 .i32)

/-- The mask tiles the first point of a batch stores. -/
def maskTiles : List (View.Piece (Elt Ideal) S768x256 .i32) :=
  [⟨Rect.unit (s := S768x256) ![128, 128] S128x128.size (by decide), (shapeCast S128x128 (select (cmpi .sge (iota .tc S128x128 32 [1] iota_S128x128_d1_w32) (iota .tc S128x128 32 [0] iota_S128x128_d0_w32)) (ori (shapeCast S128x128 (slashTile c arg9 harg9 x9 arg11 0 (by decide)) shapeCasts_S1x128x128_S128x128) (shapeCast S128x128 (vertTile c arg8 harg8 x8 arg12 1 (by decide)) shapeCasts_S1x128x128_S128x128)) (broadcast S128x128 0#32)) shapeCasts_S128x128_S128x128 : IVec S128x128 32)⟩,
    ⟨Rect.unit (s := S768x256) ![0, 128] S128x128.size (by decide), (shapeCast S128x128 (ori (shapeCast S128x128 (slashTile c arg9 harg9 x9 arg11 1 (by decide)) shapeCasts_S1x128x128_S128x128) (shapeCast S128x128 (vertTile c arg8 harg8 x8 arg12 0 (by decide)) shapeCasts_S1x128x128_S128x128)) shapeCasts_S128x128_S128x128 : IVec S128x128 32)⟩,
    ⟨Rect.unit (s := S768x256) ![128, 0] S128x128.size (by decide), (shapeCast S128x128 (broadcast S128x128 0#32) shapeCasts_S128x128_S128x128 : IVec S128x128 32)⟩,
    ⟨Rect.unit (s := S768x256) ![0, 0] S128x128.size (by decide), (shapeCast S128x128 (select (cmpi .sge (iota .tc S128x128 32 [1] iota_S128x128_d1_w32) (iota .tc S128x128 32 [0] iota_S128x128_d0_w32)) (ori (shapeCast S128x128 (slashTile c arg9 harg9 x9 arg11 0 (by decide)) shapeCasts_S1x128x128_S128x128) (shapeCast S128x128 (vertTile c arg8 harg8 x8 arg12 0 (by decide)) shapeCasts_S1x128x128_S128x128)) (broadcast S128x128 0#32)) shapeCasts_S128x128_S128x128 : IVec S128x128 32)⟩]

theorem mask_pieces_of (X11 X12 : S6x128x128.Idx → BitVec 32) (h11 : ∀ d inb r l, slashTile c arg9 harg9 x9 arg11 d inb (ix3 0 r l) = X11 (ix3 d r l))
    (h12 : ∀ d inb r l, vertTile c arg8 harg8 x8 arg12 d inb (ix3 0 r l) = X12 (ix3 d r l)) :
    View.PiecesOf (e := .i32) (tileWord 0 X11 X12) (maskTiles c arg8 harg8 arg9 harg9 arg11 arg12 x8 x9) := by
  unfold maskTiles
  refine ⟨fun x => ?_, ?_⟩
  · exact tile_diag 0 1 1 (by decide) 1 rfl rfl _ _ (h11 0 (by decide)) (h12 1 (by decide)) x
  refine ⟨fun x => ?_, ?_⟩
  · exact tile_below 0 0 1 (by decide) 1 0 rfl rfl (by decide) _ _ (h11 1 (by decide)) (h12 0 (by decide)) x
  refine ⟨fun x => ?_, ?_⟩
  · exact tile_above 0 1 0 (by decide) (by decide) x
  refine ⟨fun x => ?_, ?_⟩
  · exact tile_diag 0 0 0 (by decide) 0 rfl rfl _ _ (h11 0 (by decide)) (h12 0 (by decide)) x
  exact trivial

/-- They are the mask's tiles of the two tables. -/
theorem mask_pieces : View.PiecesOf (e := .i32) (tileWord 0 (slashTab (Run.runA.sl.v819 (F := Ideal) c arg9 harg9 x9)) (vertTab (Run.runA.sl.v1512 (F := Ideal) c arg8 harg8 x8))) (maskTiles c arg8 harg8 arg9 harg9 arg11 arg12 x8 x9) :=
  mask_pieces_of c arg8 harg8 arg9 harg9 arg11 arg12 x8 x9 _ _ (slash_load c arg9 harg9 x9 arg11) (vert_load c arg8 harg8 x8 arg12)

/-- They cover the first 256 rows. -/
theorem mask_cover (y : S768x256.Idx) (hy : (y 0).val < 256) : ∃ p ∈ maskTiles c arg8 harg8 arg9 harg9 arg11 arg12 x8 x9, y ∈ p.1.set := by
  have h1 : (y 1).val < 256 := (y 1).isLt
  obtain ⟨jt, hjt⟩ : ∃ jt, (y 0).val / 128 = jt := ⟨_, rfl⟩
  obtain ⟨half, hhalf⟩ : ∃ half, (y 1).val / 128 = half := ⟨_, rfl⟩
  have hj : jt < 2 := by omega
  have hh : half < 2 := by omega
  unfold maskTiles
  interval_cases jt <;> interval_cases half
  · exact ex_tail (ex_tail (ex_tail (ex_head (tile_mem 0 0 (by decide) y hjt hhalf))))
  · exact ex_tail (ex_head (tile_mem 0 1 (by decide) y hjt hhalf))
  · exact ex_tail (ex_tail (ex_head (tile_mem 1 0 (by decide) y hjt hhalf)))
  · exact ex_head (tile_mem 1 1 (by decide) y hjt hhalf)

end Tiles

section Run

variable (c : Dev nD) (i : grid0.Coords) (arg2 : Memref sig .tc .vmem S1x30x256x96 .fp8e4m3) (harg2 : arg2.IsWhole) (arg3 : Memref sig .tc .vmem S1x30x256 .f32) (harg3 : arg3.IsWhole) (arg4 : Memref sig .tc .vmem S1x6x768x96 .fp8e4m3) (harg4 : arg4.IsWhole) (arg5 : Memref sig .tc .vmem S1x768x6 .f32) (harg5 : arg5.IsWhole) (arg6 : Memref sig .tc .vmem S1x6x768x96 .fp8e4m3) (harg6 : arg6.IsWhole) (arg7 : Memref sig .tc .vmem S1x768x6 .f32) (harg7 : arg7.IsWhole) (arg8 : Memref sig .tc .vmem S1x30x112 .i32) (harg8 : arg8.IsWhole) (arg9 : Memref sig .tc .vmem S1x30x320 .i32) (harg9 : arg9.IsWhole) (arg10 : Memref sig .tc .vmem S1x256x2880 .bf16) (harg10 : arg10.IsWhole) (arg11 : Memref sig .tc .vmem S6x128x128 .i32) (harg11 : arg11.IsWhole) (arg12 : Memref sig .tc .vmem S6x128x128 .i32) (harg12 : arg12.IsWhole) (arg13 : Memref sig .tc .vmem S768x256 .i32) (harg13 : arg13.IsWhole) (arg14 : Memref sig .tc .vmem S6x768x128 .f32) (harg14 : arg14.IsWhole) (arg15 : Memref sig .tc .vmem S6x768x128 .f32) (harg15 : arg15.IsWhole) (arg16 : Memref sig .tc .vmem S6x96x768 .bf16) (harg16 : arg16.IsWhole) (arg17 : Memref sig .tc .vmem S2880x256 .bf16) (harg17 : arg17.IsWhole)
    (hc1 : Run.k0_first i) (hc2 : k0_cond2 i = 1#1) (hc3 : ¬k0_cond3 i = 1#1) (hc4 : ¬k0_cond4 i = 1#1)
    (x2 : Vec Ideal S1x30x256x96 .fp8e4m3) (x3 : Vec Ideal S1x30x256 .f32) (x4 : Vec Ideal S1x6x768x96 .fp8e4m3) (x5 : Vec Ideal S1x768x6 .f32) (x6 : Vec Ideal S1x6x768x96 .fp8e4m3) (x7 : Vec Ideal S1x768x6 .f32) (x8 : Vec Ideal S1x30x112 .i32) (x9 : Vec Ideal S1x30x320 .i32) (x11 : Vec Ideal S6x128x128 .i32) (x12 : Vec Ideal S6x128x128 .i32) (x13 : Vec Ideal S768x256 .i32) (x14 : Vec Ideal S6x768x128 .f32) (x15 : Vec Ideal S6x768x128 .f32) (x16 : Vec Ideal S6x96x768 .bf16) (x17 : Vec Ideal S2880x256 .bf16)

/-- The slash table after this point. -/
theorem slash_after (f : BufTy.Contents (Elt Ideal) arg11.view.ty) : arg11.view.read (Elt Ideal) (arg11.view.writes (Elt Ideal) f (Run.runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.1) = (slashTab (Run.runA.sl.v819 (F := Ideal) c arg9 harg9 x9)) :=
  funext fun y => Trip.read_writes_of (slash_pieces c arg9 harg9 x9) f y (slash_cover c arg9 harg9 x9 y)

/-- The vertical table after this point. -/
theorem vert_after (f : BufTy.Contents (Elt Ideal) arg12.view.ty) : arg12.view.read (Elt Ideal) (arg12.view.writes (Elt Ideal) f (Run.runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.2.1) = (vertTab (Run.runA.sl.v1512 (F := Ideal) c arg8 harg8 x8)) :=
  funext fun y => Trip.read_writes_of (vert_pieces c arg8 harg8 x8) f y (vert_cover c arg8 harg8 x8 y)

/-- The key scales after this point. -/
theorem ks_after (f : BufTy.Contents (Elt Ideal) arg14.view.ty) : arg14.view.read (Elt Ideal) (arg14.view.writes (Elt Ideal) f (Run.runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.2.2.2.1) = (ksTab x5) :=
  funext fun y => Trip.read_writes_of (ks_pieces c arg5 harg5 x5) f y (ks_cover c arg5 harg5 x5 y)

/-- The value scales after this point. -/
theorem vs_after (f : BufTy.Contents (Elt Ideal) arg15.view.ty) : arg15.view.read (Elt Ideal) (arg15.view.writes (Elt Ideal) f (Run.runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.2.2.2.2.1) = (vsTab x7) :=
  funext fun y => Trip.read_writes_of (vs_pieces c arg7 harg7 x7) f y (vs_cover c arg7 harg7 x7 y)

/-- The transposed values after this point. -/
theorem v_after (f : BufTy.Contents (Elt Ideal) arg16.view.ty) : arg16.view.read (Elt Ideal) (arg16.view.writes (Elt Ideal) f (Run.runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.2.2.2.2.2.1) = (vTab x6) :=
  funext fun y => Trip.read_writes_of (v_pieces c arg6 harg6 x6) f y (v_cover c arg6 harg6 x6 y)

/-- The mask's stores at this point. -/
theorem mask_stores : (Run.runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.2.2.1 = maskTiles c arg8 harg8 arg9 harg9 arg11 arg12 x8 x9 := by sl_kernel_rfl

/-- So the mask read back marks the allowed keys. -/
theorem mask_ok (R : Reads A b x2 x3 x4 x5 x6 x7 x8 x9) (f : BufTy.Contents (Elt Ideal) arg13.view.ty) : MaskOk A b 0 256 (arg13.view.read (Elt Ideal) (arg13.view.writes (Elt Ideal) f (Run.runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.2.2.1)) := by
  rw [mask_stores]
  exact tileWord_ok A b 0 (good c arg8 harg8 arg9 harg9 x8 x9 A b R.vert R.slash) fun y hy => read_mask 0 (mask_pieces c arg8 harg8 arg9 harg9 arg11 arg12 x8 x9) _ (mask_cover c arg8 harg8 arg9 harg9 arg11 arg12 x8 x9) y hy

/-- What the first point of a batch writes to the scratch buffers is what a head reads. -/
theorem holds (R : Reads A b x2 x3 x4 x5 x6 x7 x8 x9) : Holds A b 0 x2 x3 x4 (ksTab x5) (vsTab x7) (vTab x6) where
  q := R.q
  qs := R.qs
  k := R.k
  ks := fun g j l => by show x5 (ix3 0 j g) * _ = _; rw [R.ks]
  vs := fun g j l => R.vs j g
  v := fun g d j => R.v g j d

/-- The stores of the heads' loop at this point. -/
theorem ot_stores : (Run.runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.2.2.2.2.2.2.1 = pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc2 (harg2.unread x2) (harg3.unread x3) (harg4.unread x4) (arg13.view.writes (Elt Ideal) (harg13.unread x13) (maskTiles c arg8 harg8 arg9 harg9 arg11 arg12 x8 x9)) (arg14.view.writes (Elt Ideal) arg14.view.junk (Run.runA.sl.H14_6 (F := Ideal) c arg5 harg5 x5)) (arg15.view.writes (Elt Ideal) arg15.view.junk (Run.runA.sl.H15_6 (F := Ideal) c arg7 harg7 x7)) (arg16.view.writes (Elt Ideal) arg16.view.junk (Run.runA.sl.H16_6 (F := Ideal) c arg6 harg6 x6)) (Scf.trips k0_t1_loop.lb k0_t1_loop.ub k0_t1_loop.st) := by sl_kernel_rfl

/-- After the heads' loop the transposed result is the attention rows. -/
theorem ot_read (R : Reads A b x2 x3 x4 x5 x6 x7 x8 x9) (z : S2880x256.Idx) :
    arg17.view.read (Elt Ideal) (arg17.view.writes (Elt Ideal) (harg17.unread x17) (Run.runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.2.2.2.2.2.2.1) z = otOf A b 0 z := by
  have M := mask_ok A b c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17 R (harg13.unread x13)
  rw [mask_stores] at M
  have H' : Holds A b 0 (arg2.view.read (Elt Ideal) (harg2.unread x2)) (arg3.view.read (Elt Ideal) (harg3.unread x3)) (arg4.view.read (Elt Ideal) (harg4.unread x4))
      (arg14.view.read (Elt Ideal) (arg14.view.writes (Elt Ideal) arg14.view.junk (Run.runA.sl.H14_6 (F := Ideal) c arg5 harg5 x5))) (arg15.view.read (Elt Ideal) (arg15.view.writes (Elt Ideal) arg15.view.junk (Run.runA.sl.H15_6 (F := Ideal) c arg7 harg7 x7)))
      (arg16.view.read (Elt Ideal) (arg16.view.writes (Elt Ideal) arg16.view.junk (Run.runA.sl.H16_6 (F := Ideal) c arg6 harg6 x6))) := by
    rw [harg2.read_unread, harg3.read_unread, harg4.read_unread,
      show arg14.view.read (Elt Ideal) (arg14.view.writes (Elt Ideal) arg14.view.junk (Run.runA.sl.H14_6 (F := Ideal) c arg5 harg5 x5)) = ksTab x5 from funext fun y => Trip.read_writes_of (ks_pieces c arg5 harg5 x5) _ y (ks_cover c arg5 harg5 x5 y),
      show arg15.view.read (Elt Ideal) (arg15.view.writes (Elt Ideal) arg15.view.junk (Run.runA.sl.H15_6 (F := Ideal) c arg7 harg7 x7)) = vsTab x7 from funext fun y => Trip.read_writes_of (vs_pieces c arg7 harg7 x7) _ y (vs_cover c arg7 harg7 x7 y),
      show arg16.view.read (Elt Ideal) (arg16.view.writes (Elt Ideal) arg16.view.junk (Run.runA.sl.H16_6 (F := Ideal) c arg6 harg6 x6)) = vTab x6 from funext fun y => Trip.read_writes_of (v_pieces c arg6 harg6 x6) _ y (v_cover c arg6 harg6 x6 y)]
    exact holds A b x2 x3 x4 x5 x6 x7 x8 x9 R
  rw [ot_stores]
  exact Trip.after1 A b 0 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc2 _ _ _ _ _ _ _ H' (by decide) M _ z

set_option maxHeartbeats 4000000 in
/-- The output block this point stores is the result's block. -/
theorem out_read (R : Reads A b x2 x3 x4 x5 x6 x7 x8 x9) (f : BufTy.Contents (Elt Ideal) arg10.view.ty) (y : S1x256x2880.Idx) :
    arg10.view.read (Elt Ideal) (arg10.view.writes (Elt Ideal) f (Run.runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).1) y = outBlk A b 0 y := by
  have hf := ot_read A b c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17 R
  unfold Run.runA at hf ⊢
  dsimp only at hf ⊢
  refine Trip.read_writes_of ?_ f y ?_
  rotate_left
  · exact View.cover_of_tiledBy _ ![1, 256, 64] (by sl_kernel_rfl) y
  refine ⟨fun x => piece64 A b 0 hf 2816 (by decide) (by decide) x, ?_⟩
  refine ⟨fun x => piece128 A b 0 hf 2688 (by decide) (by decide) x, ?_⟩
  refine ⟨fun x => piece128 A b 0 hf 2560 (by decide) (by decide) x, ?_⟩
  refine ⟨fun x => piece128 A b 0 hf 2432 (by decide) (by decide) x, ?_⟩
  refine ⟨fun x => piece128 A b 0 hf 2304 (by decide) (by decide) x, ?_⟩
  refine ⟨fun x => piece128 A b 0 hf 2176 (by decide) (by decide) x, ?_⟩
  refine ⟨fun x => piece128 A b 0 hf 2048 (by decide) (by decide) x, ?_⟩
  refine ⟨fun x => piece128 A b 0 hf 1920 (by decide) (by decide) x, ?_⟩
  refine ⟨fun x => piece128 A b 0 hf 1792 (by decide) (by decide) x, ?_⟩
  refine ⟨fun x => piece128 A b 0 hf 1664 (by decide) (by decide) x, ?_⟩
  refine ⟨fun x => piece128 A b 0 hf 1536 (by decide) (by decide) x, ?_⟩
  refine ⟨fun x => piece128 A b 0 hf 1408 (by decide) (by decide) x, ?_⟩
  refine ⟨fun x => piece128 A b 0 hf 1280 (by decide) (by decide) x, ?_⟩
  refine ⟨fun x => piece128 A b 0 hf 1152 (by decide) (by decide) x, ?_⟩
  refine ⟨fun x => piece128 A b 0 hf 1024 (by decide) (by decide) x, ?_⟩
  refine ⟨fun x => piece128 A b 0 hf 896 (by decide) (by decide) x, ?_⟩
  refine ⟨fun x => piece128 A b 0 hf 768 (by decide) (by decide) x, ?_⟩
  refine ⟨fun x => piece128 A b 0 hf 640 (by decide) (by decide) x, ?_⟩
  refine ⟨fun x => piece128 A b 0 hf 512 (by decide) (by decide) x, ?_⟩
  refine ⟨fun x => piece128 A b 0 hf 384 (by decide) (by decide) x, ?_⟩
  refine ⟨fun x => piece128 A b 0 hf 256 (by decide) (by decide) x, ?_⟩
  refine ⟨fun x => piece128 A b 0 hf 128 (by decide) (by decide) x, ?_⟩
  refine ⟨fun x => piece128 A b 0 hf 0 (by decide) (by decide) x, ?_⟩
  exact trivial

end Run

end Cert.KernelIdeal.CaseA

end
-- ==== Proof.Blocks.lean ====
module

public import proofs.«01_k».proof.Proof.CaseA
public import Idealize.ShloMosaic.Lib.Claim
public import Idealize.ShloMosaic.Lib.Pipeline.ValueKit

@[expose] public section

set_option maxRecDepth 16384

noncomputable section

namespace Cert.KernelIdeal.Blocks

open Idealize.ShloMosaic Idealize.ShloMosaic.TcCoe Idealize.ShloMosaic.Tactic
open Idealize.SL Idealize.SL.Sem
open Idealize.ShloMosaic.Pipeline (Dat)
open Cert.KernelIdeal Cert.KernelIdeal.Gen Cert.KernelIdeal.Head
open Cert.Row Cert.Spec

variable (m : (ℓ : Loc nD τ sig) → Buf (Elt Ideal) ℓ)

/-- The eight argument arrays of a device, read at coordinates. -/
def argsOf (c : Dev nD) : Args where
  q b i h d := (m ((c : Thread nD τ).loc main_arg0) : FVec Ideal S2x768x30x96 .fp8e4m3) (ix4 b i h d)
  qs b i h := (m ((c : Thread nD τ).loc main_arg1) : FVec Ideal S2x768x30 .f32) (ix3 b i h)
  k b j g d := (m ((c : Thread nD τ).loc main_arg2) : FVec Ideal S2x768x6x96 .fp8e4m3) (ix4 b j g d)
  ks b j g := (m ((c : Thread nD τ).loc main_arg3) : FVec Ideal S2x768x6 .f32) (ix3 b j g)
  v b j g d := (m ((c : Thread nD τ).loc main_arg4) : FVec Ideal S2x768x6x96 .fp8e4m3) (ix4 b j g d)
  vs b j g := (m ((c : Thread nD τ).loc main_arg5) : FVec Ideal S2x768x6 .f32) (ix3 b j g)
  vert b h n := (m ((c : Thread nD τ).loc main_arg6) : IVec S2x30x112 32) (ix3 b h n)
  slash b h n := (m ((c : Thread nD τ).loc main_arg7) : IVec S2x30x320 32) (ix3 b h n)

/-- The batch of a grid point. -/
def bOf (t : Fin cfg0.N) : Fin 2 := ⟨t.val / 3, by have := lt_of_lt_of_eq t.isLt N_0; omega⟩

/-- The row block of a grid point. -/
def uOf (t : Fin cfg0.N) : Fin 3 := ⟨t.val % 3, Nat.mod_lt _ (by decide)⟩

/-- Where each window's block sits, at every grid point. -/
theorem idx : ∀ t : Fin cfg0.N, win0_0.index t = ![t.val / 3, 0, t.val % 3, 0] ∧ win0_1.index t = ![t.val / 3, 0, t.val % 3]
    ∧ win0_2.index t = ![t.val / 3, 0, 0, 0] ∧ win0_3.index t = ![t.val / 3, 0, 0] ∧ win0_4.index t = ![t.val / 3, 0, 0, 0]
    ∧ win0_5.index t = ![t.val / 3, 0, 0] ∧ win0_6.index t = ![t.val / 3, 0, 0] ∧ win0_7.index t = ![t.val / 3, 0, 0]
    ∧ win0_8.index t = ![t.val / 3, t.val % 3, 0] :=
  (by decide +kernel : ∀ t : Fin grid0.N, _)

variable (c : Dev nD) (t : Fin cfg0.N)

theorem V_v0 : V m c main_v0 = transpose S2x30x768x96 [0, 2, 1, 3] (m ((c : Thread nD τ).loc main_arg0) : FVec Ideal S2x768x30x96 .fp8e4m3) transposes_S2x768x30x96_S2x30x768x96_0_2_1_3 := by
  entry_read; rfl

theorem V_v1 : V m c main_v1 = transpose S2x30x768 [0, 2, 1] (m ((c : Thread nD τ).loc main_arg1) : FVec Ideal S2x768x30 .f32) transposes_S2x768x30_S2x30x768_0_2_1 := by
  entry_read; rfl

theorem V_v2 : V m c main_v2 = transpose S2x6x768x96 [0, 2, 1, 3] (m ((c : Thread nD τ).loc main_arg2) : FVec Ideal S2x768x6x96 .fp8e4m3) transposes_S2x768x6x96_S2x6x768x96_0_2_1_3 := by
  entry_read; rfl

theorem V_v3 : V m c main_v3 = transpose S2x6x768x96 [0, 2, 1, 3] (m ((c : Thread nD τ).loc main_arg4) : FVec Ideal S2x768x6x96 .fp8e4m3) transposes_S2x768x6x96_S2x6x768x96_0_2_1_3 := by
  entry_read; rfl

/-! ## Each input block, at coordinates -/

theorem blk_q (h : Fin 30) (i : Fin 256) (d : Fin 96) : iblk m c 0 t (ix4 0 h i d) = (argsOf m c).q (bOf t) (qpos (uOf t) i) h d := by
  unfold argsOf
  blk_simp [iblk]
  rw [V_v0]
  pointwise []
  blk_point [idx t, bOf, uOf, qpos]

theorem blk_qs (h : Fin 30) (i : Fin 256) : iblk m c 1 t (ix3 0 h i) = (argsOf m c).qs (bOf t) (qpos (uOf t) i) h := by
  unfold argsOf
  blk_simp [iblk]
  rw [V_v1]
  pointwise []
  blk_point [idx t, bOf, uOf, qpos]

theorem blk_k (g : Fin 6) (j : Fin 768) (d : Fin 96) : iblk m c 2 t (ix4 0 g j d) = (argsOf m c).k (bOf t) j g d := by
  unfold argsOf
  blk_simp [iblk]
  rw [V_v2]
  pointwise []
  blk_point [idx t, bOf]

theorem blk_ks (j : Fin 768) (g : Fin 6) : iblk m c 3 t (ix3 0 j g) = (argsOf m c).ks (bOf t) j g := by
  unfold argsOf
  blk_point [iblk, V, idx t, bOf]

theorem blk_v (g : Fin 6) (j : Fin 768) (d : Fin 96) : iblk m c 4 t (ix4 0 g j d) = (argsOf m c).v (bOf t) j g d := by
  unfold argsOf
  blk_simp [iblk]
  rw [V_v3]
  pointwise []
  blk_point [idx t, bOf]

theorem blk_vs (j : Fin 768) (g : Fin 6) : iblk m c 5 t (ix3 0 j g) = (argsOf m c).vs (bOf t) j g := by
  unfold argsOf
  blk_point [iblk, V, idx t, bOf]

theorem blk_vert (h : Fin 30) (n : Fin 112) : iblk m c 6 t (ix3 0 h n) = (argsOf m c).vert (bOf t) h n := by
  unfold argsOf
  blk_point [iblk, V, idx t, bOf]

theorem blk_slash (h : Fin 30) (n : Fin 320) : iblk m c 7 t (ix3 0 h n) = (argsOf m c).slash (bOf t) h n := by
  unfold argsOf
  blk_point [iblk, V, idx t, bOf]

end Cert.KernelIdeal.Blocks

end
-- ==== Proof.CaseB.lean ====
module

public import proofs.«01_k».proof.Proof.OutBlk
public import proofs.«01_k».proof.Proof.KernelIdealRunB
public import Idealize.ShloMosaic.Lib.Ring

@[expose] public section

set_option maxRecDepth 16384

noncomputable section

namespace Cert.KernelIdeal.CaseB

open Idealize.ShloMosaic Idealize.ShloMosaic.TcCoe Idealize.ShloMosaic.Tactic
open Cert.KernelIdeal Cert.KernelIdeal.Gen Cert.KernelIdeal.Head Cert.KernelIdeal.Mask Cert.KernelIdeal.Out
open Cert.Row Cert.Spec

variable (A : Args) (b : Fin 2)

section Run

variable (c : Dev nD) (i : grid0.Coords) (arg2 : Memref sig .tc .vmem S1x30x256x96 .fp8e4m3) (harg2 : arg2.IsWhole) (arg3 : Memref sig .tc .vmem S1x30x256 .f32) (harg3 : arg3.IsWhole) (arg4 : Memref sig .tc .vmem S1x6x768x96 .fp8e4m3) (harg4 : arg4.IsWhole) (arg5 : Memref sig .tc .vmem S1x768x6 .f32) (harg5 : arg5.IsWhole) (arg6 : Memref sig .tc .vmem S1x6x768x96 .fp8e4m3) (harg6 : arg6.IsWhole) (arg7 : Memref sig .tc .vmem S1x768x6 .f32) (harg7 : arg7.IsWhole) (arg8 : Memref sig .tc .vmem S1x30x112 .i32) (harg8 : arg8.IsWhole) (arg9 : Memref sig .tc .vmem S1x30x320 .i32) (harg9 : arg9.IsWhole) (arg10 : Memref sig .tc .vmem S1x256x2880 .bf16) (harg10 : arg10.IsWhole) (arg11 : Memref sig .tc .vmem S6x128x128 .i32) (harg11 : arg11.IsWhole) (arg12 : Memref sig .tc .vmem S6x128x128 .i32) (harg12 : arg12.IsWhole) (arg13 : Memref sig .tc .vmem S768x256 .i32) (harg13 : arg13.IsWhole) (arg14 : Memref sig .tc .vmem S6x768x128 .f32) (harg14 : arg14.IsWhole) (arg15 : Memref sig .tc .vmem S6x768x128 .f32) (harg15 : arg15.IsWhole) (arg16 : Memref sig .tc .vmem S6x96x768 .bf16) (harg16 : arg16.IsWhole) (arg17 : Memref sig .tc .vmem S2880x256 .bf16) (harg17 : arg17.IsWhole)
    (hc1 : ¬Run.k0_first i) (hc2 : ¬k0_cond2 i = 1#1) (hc3 : k0_cond3 i = 1#1) (hc4 : ¬k0_cond4 i = 1#1)
    (x2 : Vec Ideal S1x30x256x96 .fp8e4m3) (x3 : Vec Ideal S1x30x256 .f32) (x4 : Vec Ideal S1x6x768x96 .fp8e4m3) (x5 : Vec Ideal S1x768x6 .f32) (x6 : Vec Ideal S1x6x768x96 .fp8e4m3) (x7 : Vec Ideal S1x768x6 .f32) (x8 : Vec Ideal S1x30x112 .i32) (x9 : Vec Ideal S1x30x320 .i32) (x11 : Vec Ideal S6x128x128 .i32) (x12 : Vec Ideal S6x128x128 .i32) (x13 : Vec Ideal S768x256 .i32) (x14 : Vec Ideal S6x768x128 .f32) (x15 : Vec Ideal S6x768x128 .f32) (x16 : Vec Ideal S6x96x768 .bf16) (x17 : Vec Ideal S2880x256 .bf16)

/-- The mask's tiles stored at this point are the mask's tiles of the two tables. -/
theorem mask_pieces : View.PiecesOf (e := .i32) (tileWord 1 x11 x12) (Run.runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.1 := by
  unfold Run.runB
  refine ⟨fun x => ?_, ?_⟩
  · exact tile_diag 1 3 1 (by decide) 3 rfl rfl _ _ (fun r c => (readAt_at _ _ _ _ (ix3 0 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 3 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_below 1 2 1 (by decide) 1 2 rfl rfl (by decide) _ _ (fun r c => (readAt_at _ _ _ _ (ix3 1 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 2 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_below 1 1 1 (by decide) 2 1 rfl rfl (by decide) _ _ (fun r c => (readAt_at _ _ _ _ (ix3 2 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 1 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_below 1 0 1 (by decide) 3 0 rfl rfl (by decide) _ _ (fun r c => (readAt_at _ _ _ _ (ix3 3 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 0 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_above 1 3 0 (by decide) (by decide) x
  refine ⟨fun x => ?_, ?_⟩
  · exact tile_diag 1 2 0 (by decide) 2 rfl rfl _ _ (fun r c => (readAt_at _ _ _ _ (ix3 0 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 2 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_below 1 1 0 (by decide) 1 1 rfl rfl (by decide) _ _ (fun r c => (readAt_at _ _ _ _ (ix3 1 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 1 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_below 1 0 0 (by decide) 2 0 rfl rfl (by decide) _ _ (fun r c => (readAt_at _ _ _ _ (ix3 2 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 0 r c) (fun a => by match a with | ⟨0, _⟩ => rfl | ⟨1, _⟩ => exact Nat.zero_add _ | ⟨2, _⟩ => exact Nat.zero_add _)).trans (congrFun (harg12.read_unread x12) _)) x
  exact trivial

/-- They cover the first 512 rows. -/
theorem mask_cover (y : S768x256.Idx) (hy : (y 0).val < 512) : ∃ p ∈ (Run.runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.1, y ∈ p.1.set := by
  have h1 : (y 1).val < 256 := (y 1).isLt
  obtain ⟨jt, hjt⟩ : ∃ jt, (y 0).val / 128 = jt := ⟨_, rfl⟩
  obtain ⟨half, hhalf⟩ : ∃ half, (y 1).val / 128 = half := ⟨_, rfl⟩
  have hj : jt < 4 := by omega
  have hh : half < 2 := by omega
  unfold Run.runB
  interval_cases jt <;> interval_cases half
  · exact ex_tail (ex_tail (ex_tail (ex_tail (ex_tail (ex_tail (ex_tail (ex_head (tile_mem 0 0 (by decide) y hjt hhalf))))))))
  · exact ex_tail (ex_tail (ex_tail (ex_head (tile_mem 0 1 (by decide) y hjt hhalf))))
  · exact ex_tail (ex_tail (ex_tail (ex_tail (ex_tail (ex_tail (ex_head (tile_mem 1 0 (by decide) y hjt hhalf)))))))
  · exact ex_tail (ex_tail (ex_head (tile_mem 1 1 (by decide) y hjt hhalf)))
  · exact ex_tail (ex_tail (ex_tail (ex_tail (ex_tail (ex_head (tile_mem 2 0 (by decide) y hjt hhalf))))))
  · exact ex_tail (ex_head (tile_mem 2 1 (by decide) y hjt hhalf))
  · exact ex_tail (ex_tail (ex_tail (ex_tail (ex_head (tile_mem 3 0 (by decide) y hjt hhalf)))))
  · exact ex_head (tile_mem 3 1 (by decide) y hjt hhalf)

/-- So the mask read back marks the allowed keys, when the tables are good. -/
theorem mask_ok (G : Good A b x11 x12) : MaskOk A b 1 512 (arg13.view.read (Elt Ideal) (arg13.view.writes (Elt Ideal) (harg13.unread x13) (Run.runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.1)) :=
  tileWord_ok A b 1 G fun y hy => read_mask 1 (mask_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17) _ (mask_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17) y hy

/-- After the heads' loop the transposed result is the attention rows. -/
theorem ot_read (G : Good A b x11 x12) (H : Holds A b 1 x2 x3 x4 x14 x15 x16) (z : S2880x256.Idx) :
    arg17.view.read (Elt Ideal) (arg17.view.writes (Elt Ideal) (harg17.unread x17) (Run.runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.2.1) z = otOf A b 1 z := by
  have M := mask_ok A b c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17 G
  have H' : Holds A b 1 (arg2.view.read (Elt Ideal) (harg2.unread x2)) (arg3.view.read (Elt Ideal) (harg3.unread x3)) (arg4.view.read (Elt Ideal) (harg4.unread x4))
      (arg14.view.read (Elt Ideal) (harg14.unread x14)) (arg15.view.read (Elt Ideal) (harg15.unread x15)) (arg16.view.read (Elt Ideal) (harg16.unread x16)) := by
    rw [harg2.read_unread, harg3.read_unread, harg4.read_unread, harg14.read_unread, harg15.read_unread, harg16.read_unread]
    exact H
  exact Trip.after2 A b 1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc3 _ _ _ _ _ _ _ H' (by decide) M _ z

set_option maxHeartbeats 4000000 in
/-- The output block this point stores is the result's block. -/
theorem out_read (G : Good A b x11 x12) (H : Holds A b 1 x2 x3 x4 x14 x15 x16) (f : BufTy.Contents (Elt Ideal) arg10.view.ty) (y : S1x256x2880.Idx) :
    arg10.view.read (Elt Ideal) (arg10.view.writes (Elt Ideal) f (Run.runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).1) y = outBlk A b 1 y := by
  have hf := ot_read A b c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17 G H
  unfold Run.runB at hf ⊢
  dsimp only at hf ⊢
  refine Trip.read_writes_of ?_ f y ?_
  rotate_left
  · exact View.cover_of_tiledBy _ ![1, 256, 64] (by sl_kernel_rfl) y
  refine ⟨fun x => piece64 A b 1 hf 2816 (by decide) (by decide) x, ?_⟩
  refine ⟨fun x => piece128 A b 1 hf 2688 (by decide) (by decide) x, ?_⟩
  refine ⟨fun x => piece128 A b 1 hf 2560 (by decide) (by decide) x, ?_⟩
  refine ⟨fun x => piece128 A b 1 hf 2432 (by decide) (by decide) x, ?_⟩
  refine ⟨fun x => piece128 A b 1 hf 2304 (by decide) (by decide) x, ?_⟩
  refine ⟨fun x => piece128 A b 1 hf 2176 (by decide) (by decide) x, ?_⟩
  refine ⟨fun x => piece128 A b 1 hf 2048 (by decide) (by decide) x, ?_⟩
  refine ⟨fun x => piece128 A b 1 hf 1920 (by decide) (by decide) x, ?_⟩
  refine ⟨fun x => piece128 A b 1 hf 1792 (by decide) (by decide) x, ?_⟩
  refine ⟨fun x => piece128 A b 1 hf 1664 (by decide) (by decide) x, ?_⟩
  refine ⟨fun x => piece128 A b 1 hf 1536 (by decide) (by decide) x, ?_⟩
  refine ⟨fun x => piece128 A b 1 hf 1408 (by decide) (by decide) x, ?_⟩
  refine ⟨fun x => piece128 A b 1 hf 1280 (by decide) (by decide) x, ?_⟩
  refine ⟨fun x => piece128 A b 1 hf 1152 (by decide) (by decide) x, ?_⟩
  refine ⟨fun x => piece128 A b 1 hf 1024 (by decide) (by decide) x, ?_⟩
  refine ⟨fun x => piece128 A b 1 hf 896 (by decide) (by decide) x, ?_⟩
  refine ⟨fun x => piece128 A b 1 hf 768 (by decide) (by decide) x, ?_⟩
  refine ⟨fun x => piece128 A b 1 hf 640 (by decide) (by decide) x, ?_⟩
  refine ⟨fun x => piece128 A b 1 hf 512 (by decide) (by decide) x, ?_⟩
  refine ⟨fun x => piece128 A b 1 hf 384 (by decide) (by decide) x, ?_⟩
  refine ⟨fun x => piece128 A b 1 hf 256 (by decide) (by decide) x, ?_⟩
  refine ⟨fun x => piece128 A b 1 hf 128 (by decide) (by decide) x, ?_⟩
  refine ⟨fun x => piece128 A b 1 hf 0 (by decide) (by decide) x, ?_⟩
  exact trivial

end Run

end Cert.KernelIdeal.CaseB

end
-- ==== Proof.CaseC.lean ====
module

public import proofs.«01_k».proof.Proof.OutBlk
public import proofs.«01_k».proof.Proof.KernelIdealRunC
public import Idealize.ShloMosaic.Lib.Ring

@[expose] public section

set_option maxRecDepth 16384

noncomputable section

namespace Cert.KernelIdeal.CaseC

open Idealize.ShloMosaic Idealize.ShloMosaic.TcCoe Idealize.ShloMosaic.Tactic
open Cert.KernelIdeal Cert.KernelIdeal.Gen Cert.KernelIdeal.Head Cert.KernelIdeal.Mask Cert.KernelIdeal.Out
open Cert.Row Cert.Spec

variable (A : Args) (b : Fin 2)

section Run

variable (c : Dev nD) (i : grid0.Coords) (arg2 : Memref sig .tc .vmem S1x30x256x96 .fp8e4m3) (harg2 : arg2.IsWhole) (arg3 : Memref sig .tc .vmem S1x30x256 .f32) (harg3 : arg3.IsWhole) (arg4 : Memref sig .tc .vmem S1x6x768x96 .fp8e4m3) (harg4 : arg4.IsWhole) (arg5 : Memref sig .tc .vmem S1x768x6 .f32) (harg5 : arg5.IsWhole) (arg6 : Memref sig .tc .vmem S1x6x768x96 .fp8e4m3) (harg6 : arg6.IsWhole) (arg7 : Memref sig .tc .vmem S1x768x6 .f32) (harg7 : arg7.IsWhole) (arg8 : Memref sig .tc .vmem S1x30x112 .i32) (harg8 : arg8.IsWhole) (arg9 : Memref sig .tc .vmem S1x30x320 .i32) (harg9 : arg9.IsWhole) (arg10 : Memref sig .tc .vmem S1x256x2880 .bf16) (harg10 : arg10.IsWhole) (arg11 : Memref sig .tc .vmem S6x128x128 .i32) (harg11 : arg11.IsWhole) (arg12 : Memref sig .tc .vmem S6x128x128 .i32) (harg12 : arg12.IsWhole) (arg13 : Memref sig .tc .vmem S768x256 .i32) (harg13 : arg13.IsWhole) (arg14 : Memref sig .tc .vmem S6x768x128 .f32) (harg14 : arg14.IsWhole) (arg15 : Memref sig .tc .vmem S6x768x128 .f32) (harg15 : arg15.IsWhole) (arg16 : Memref sig .tc .vmem S6x96x768 .bf16) (harg16 : arg16.IsWhole) (arg17 : Memref sig .tc .vmem S2880x256 .bf16) (harg17 : arg17.IsWhole)
    (hc1 : ¬Run.k0_first i) (hc2 : ¬k0_cond2 i = 1#1) (hc3 : ¬k0_cond3 i = 1#1) (hc4 : k0_cond4 i = 1#1)
    (x2 : Vec Ideal S1x30x256x96 .fp8e4m3) (x3 : Vec Ideal S1x30x256 .f32) (x4 : Vec Ideal S1x6x768x96 .fp8e4m3) (x5 : Vec Ideal S1x768x6 .f32) (x6 : Vec Ideal S1x6x768x96 .fp8e4m3) (x7 : Vec Ideal S1x768x6 .f32) (x8 : Vec Ideal S1x30x112 .i32) (x9 : Vec Ideal S1x30x320 .i32) (x11 : Vec Ideal S6x128x128 .i32) (x12 : Vec Ideal S6x128x128 .i32) (x13 : Vec Ideal S768x256 .i32) (x14 : Vec Ideal S6x768x128 .f32) (x15 : Vec Ideal S6x768x128 .f32) (x16 : Vec Ideal S6x96x768 .bf16) (x17 : Vec Ideal S2880x256 .bf16)

/-- The mask's tiles stored at this point are the mask's tiles of the two tables. -/
theorem mask_pieces : View.PiecesOf (e := .i32) (tileWord 2 x11 x12) (Run.runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.1 := by
  unfold Run.runC
  refine ⟨fun x => ?_, ?_⟩
  · exact tile_diag 2 5 1 (by decide) 5 rfl rfl _ _ (fun r c => (readAt_at _ _ _ _ (ix3 0 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 5 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_below 2 4 1 (by decide) 1 4 rfl rfl (by decide) _ _ (fun r c => (readAt_at _ _ _ _ (ix3 1 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 4 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_below 2 3 1 (by decide) 2 3 rfl rfl (by decide) _ _ (fun r c => (readAt_at _ _ _ _ (ix3 2 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 3 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_below 2 2 1 (by decide) 3 2 rfl rfl (by decide) _ _ (fun r c => (readAt_at _ _ _ _ (ix3 3 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 2 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_below 2 1 1 (by decide) 4 1 rfl rfl (by decide) _ _ (fun r c => (readAt_at _ _ _ _ (ix3 4 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 1 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_below 2 0 1 (by decide) 5 0 rfl rfl (by decide) _ _ (fun r c => (readAt_at _ _ _ _ (ix3 5 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 0 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_above 2 5 0 (by decide) (by decide) x
  refine ⟨fun x => ?_, ?_⟩
  · exact tile_diag 2 4 0 (by decide) 4 rfl rfl _ _ (fun r c => (readAt_at _ _ _ _ (ix3 0 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 4 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_below 2 3 0 (by decide) 1 3 rfl rfl (by decide) _ _ (fun r c => (readAt_at _ _ _ _ (ix3 1 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 3 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_below 2 2 0 (by decide) 2 2 rfl rfl (by decide) _ _ (fun r c => (readAt_at _ _ _ _ (ix3 2 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 2 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_below 2 1 0 (by decide) 3 1 rfl rfl (by decide) _ _ (fun r c => (readAt_at _ _ _ _ (ix3 3 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 1 r c) (fun a => by match a with | ⟨0, _⟩ => rfl | ⟨1, _⟩ => exact Nat.zero_add _ | ⟨2, _⟩ => exact Nat.zero_add _)).trans (congrFun (harg12.read_unread x12) _)) x
  refine ⟨fun x => ?_, ?_⟩
  · exact tile_below 2 0 0 (by decide) 4 0 rfl rfl (by decide) _ _ (fun r c => (readAt_at _ _ _ _ (ix3 4 r c) (fun a => by match a with | ⟨0, _⟩ => rfl | ⟨1, _⟩ => exact Nat.zero_add _ | ⟨2, _⟩ => exact Nat.zero_add _)).trans (congrFun (harg11.read_unread x11) _)) (fun r c => (readAt_at _ _ _ _ (ix3 0 r c) (fun a => by match a with | ⟨0, _⟩ => rfl | ⟨1, _⟩ => exact Nat.zero_add _ | ⟨2, _⟩ => exact Nat.zero_add _)).trans (congrFun (harg12.read_unread x12) _)) x
  exact trivial

/-- They cover the first 768 rows. -/
theorem mask_cover (y : S768x256.Idx) (hy : (y 0).val < 768) : ∃ p ∈ (Run.runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.1, y ∈ p.1.set := by
  have h1 : (y 1).val < 256 := (y 1).isLt
  obtain ⟨jt, hjt⟩ : ∃ jt, (y 0).val / 128 = jt := ⟨_, rfl⟩
  obtain ⟨half, hhalf⟩ : ∃ half, (y 1).val / 128 = half := ⟨_, rfl⟩
  have hj : jt < 6 := by omega
  have hh : half < 2 := by omega
  unfold Run.runC
  interval_cases jt <;> interval_cases half
  · exact ex_tail (ex_tail (ex_tail (ex_tail (ex_tail (ex_tail (ex_tail (ex_tail (ex_tail (ex_tail (ex_tail (ex_head (tile_mem 0 0 (by decide) y hjt hhalf))))))))))))
  · exact ex_tail (ex_tail (ex_tail (ex_tail (ex_tail (ex_head (tile_mem 0 1 (by decide) y hjt hhalf))))))
  · exact ex_tail (ex_tail (ex_tail (ex_tail (ex_tail (ex_tail (ex_tail (ex_tail (ex_tail (ex_tail (ex_head (tile_mem 1 0 (by decide) y hjt hhalf)))))))))))
  · exact ex_tail (ex_tail (ex_tail (ex_tail (ex_head (tile_mem 1 1 (by decide) y hjt hhalf)))))
  · exact ex_tail (ex_tail (ex_tail (ex_tail (ex_tail (ex_tail (ex_tail (ex_tail (ex_tail (ex_head (tile_mem 2 0 (by decide) y hjt hhalf))))))))))
  · exact ex_tail (ex_tail (ex_tail (ex_head (tile_mem 2 1 (by decide) y hjt hhalf))))
  · exact ex_tail (ex_tail (ex_tail (ex_tail (ex_tail (ex_tail (ex_tail (ex_tail (ex_head (tile_mem 3 0 (by decide) y hjt hhalf)))))))))
  · exact ex_tail (ex_tail (ex_head (tile_mem 3 1 (by decide) y hjt hhalf)))
  · exact ex_tail (ex_tail (ex_tail (ex_tail (ex_tail (ex_tail (ex_tail (ex_head (tile_mem 4 0 (by decide) y hjt hhalf))))))))
  · exact ex_tail (ex_head (tile_mem 4 1 (by decide) y hjt hhalf))
  · exact ex_tail (ex_tail (ex_tail (ex_tail (ex_tail (ex_tail (ex_head (tile_mem 5 0 (by decide) y hjt hhalf)))))))
  · exact ex_head (tile_mem 5 1 (by decide) y hjt hhalf)

/-- So the mask read back marks the allowed keys, when the tables are good. -/
theorem mask_ok (G : Good A b x11 x12) : MaskOk A b 2 768 (arg13.view.read (Elt Ideal) (arg13.view.writes (Elt Ideal) arg13.view.junk (Run.runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.1)) :=
  tileWord_ok A b 2 G fun y hy => read_mask 2 (mask_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17) _ (mask_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17) y hy

/-- The stores of the heads' loop at this point. -/
theorem ot_stores : (Run.runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.2.1 = pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc4 (harg2.unread x2) (harg3.unread x3) (harg4.unread x4) (arg13.view.writes (Elt Ideal) arg13.view.junk (Run.runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.1) (harg14.unread x14) (harg15.unread x15) (harg16.unread x16) (Scf.trips k0_t3_loop.lb k0_t3_loop.ub k0_t3_loop.st) := by sl_kernel_rfl

/-- After the heads' loop the transposed result is the attention rows. -/
theorem ot_read (G : Good A b x11 x12) (H : Holds A b 2 x2 x3 x4 x14 x15 x16) (z : S2880x256.Idx) :
    arg17.view.read (Elt Ideal) (arg17.view.writes (Elt Ideal) (harg17.unread x17) (Run.runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).2.2.1) z = otOf A b 2 z := by
  have M := mask_ok A b c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17 G
  have H' : Holds A b 2 (arg2.view.read (Elt Ideal) (harg2.unread x2)) (arg3.view.read (Elt Ideal) (harg3.unread x3)) (arg4.view.read (Elt Ideal) (harg4.unread x4))
      (arg14.view.read (Elt Ideal) (harg14.unread x14)) (arg15.view.read (Elt Ideal) (harg15.unread x15)) (arg16.view.read (Elt Ideal) (harg16.unread x16)) := by
    rw [harg2.read_unread, harg3.read_unread, harg4.read_unread, harg14.read_unread, harg15.read_unread, harg16.read_unread]
    exact H
  rw [ot_stores]
  exact Trip.after3 A b 2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc4 _ _ _ _ _ _ _ H' (by decide) M _ z

set_option maxHeartbeats 4000000 in
/-- The output block this point stores is the result's block. -/
theorem out_read (G : Good A b x11 x12) (H : Holds A b 2 x2 x3 x4 x14 x15 x16) (f : BufTy.Contents (Elt Ideal) arg10.view.ty) (y : S1x256x2880.Idx) :
    arg10.view.read (Elt Ideal) (arg10.view.writes (Elt Ideal) f (Run.runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17).1) y = outBlk A b 2 y := by
  have hf := ot_read A b c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 hc2 hc3 hc4 x2 x3 x4 x5 x6 x7 x8 x9 x11 x12 x13 x14 x15 x16 x17 G H
  unfold Run.runC at hf ⊢
  dsimp only at hf ⊢
  refine Trip.read_writes_of ?_ f y ?_
  rotate_left
  · exact View.cover_of_tiledBy _ ![1, 256, 64] (by sl_kernel_rfl) y
  refine ⟨fun x => piece64 A b 2 hf 2816 (by decide) (by decide) x, ?_⟩
  refine ⟨fun x => piece128 A b 2 hf 2688 (by decide) (by decide) x, ?_⟩
  refine ⟨fun x => piece128 A b 2 hf 2560 (by decide) (by decide) x, ?_⟩
  refine ⟨fun x => piece128 A b 2 hf 2432 (by decide) (by decide) x, ?_⟩
  refine ⟨fun x => piece128 A b 2 hf 2304 (by decide) (by decide) x, ?_⟩
  refine ⟨fun x => piece128 A b 2 hf 2176 (by decide) (by decide) x, ?_⟩
  refine ⟨fun x => piece128 A b 2 hf 2048 (by decide) (by decide) x, ?_⟩
  refine ⟨fun x => piece128 A b 2 hf 1920 (by decide) (by decide) x, ?_⟩
  refine ⟨fun x => piece128 A b 2 hf 1792 (by decide) (by decide) x, ?_⟩
  refine ⟨fun x => piece128 A b 2 hf 1664 (by decide) (by decide) x, ?_⟩
  refine ⟨fun x => piece128 A b 2 hf 1536 (by decide) (by decide) x, ?_⟩
  refine ⟨fun x => piece128 A b 2 hf 1408 (by decide) (by decide) x, ?_⟩
  refine ⟨fun x => piece128 A b 2 hf 1280 (by decide) (by decide) x, ?_⟩
  refine ⟨fun x => piece128 A b 2 hf 1152 (by decide) (by decide) x, ?_⟩
  refine ⟨fun x => piece128 A b 2 hf 1024 (by decide) (by decide) x, ?_⟩
  refine ⟨fun x => piece128 A b 2 hf 896 (by decide) (by decide) x, ?_⟩
  refine ⟨fun x => piece128 A b 2 hf 768 (by decide) (by decide) x, ?_⟩
  refine ⟨fun x => piece128 A b 2 hf 640 (by decide) (by decide) x, ?_⟩
  refine ⟨fun x => piece128 A b 2 hf 512 (by decide) (by decide) x, ?_⟩
  refine ⟨fun x => piece128 A b 2 hf 384 (by decide) (by decide) x, ?_⟩
  refine ⟨fun x => piece128 A b 2 hf 256 (by decide) (by decide) x, ?_⟩
  refine ⟨fun x => piece128 A b 2 hf 128 (by decide) (by decide) x, ?_⟩
  refine ⟨fun x => piece128 A b 2 hf 0 (by decide) (by decide) x, ?_⟩
  exact trivial

end Run

end Cert.KernelIdeal.CaseC

end
-- ==== Proof.Bodies.lean ====
module

public import proofs.«01_k».proof.Proof.Blocks
public import proofs.«01_k».proof.Proof.CaseB
public import proofs.«01_k».proof.Proof.CaseC
public import proofs.«01_k».proof.Proof.KernelIdealFrame

@[expose] public section

set_option maxRecDepth 16384

noncomputable section

namespace Cert.KernelIdeal.Exact

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Run Cert.KernelIdeal.Blocks
open Cert.KernelIdeal.Head Cert.KernelIdeal.Mask Cert.KernelIdeal.Out Cert.KernelIdeal.Tables Cert.KernelIdeal.CaseA
open Cert.Row Cert.Spec

local notation "𝕄" => MT nD τ sig Unit (Elt Ideal) ℕ (UR sig nD τ) ℕ

variable (m : (ℓ : Loc nD τ sig) → Buf (Elt Ideal) ℓ) (ρ : Dev nD → PrngReg)

/-! ## What a batch's first point leaves in the scratch for the next two -/

/-- The two tables of bits, the key scales, the value scales and the transposed values, of batch `b`. -/
structure Carried (A : Args) (b : Fin 2) (x11 x12 : S6x128x128.Idx → BitVec 32) (x14 x15 : S6x768x128.Idx → EReal) (x16 : S6x96x768.Idx → EReal) : Prop where
  good : Good A b x11 x12
  ks : ∀ g j l, x14 (ix3 g j l) = A.ks b j g * scaleLog2e
  vs : ∀ g j l, x15 (ix3 g j l) = A.vs b j g
  v : ∀ g d j, x16 (ix3 g d j) = A.v b j g d

/-- The scratch between two points of one batch: the carried buffers at batch `b`'s data, the other two at anything. -/
def Held (A : Args) (b : Fin 2) (c : Dev nD) : sProp 𝕄 :=
  iprop(∃ x11 x12 x14 x15 x16, ⌜Carried A b x11 x12 x14 x15 x16⌝ ∗ owns (c : Thread nD τ) sc11 fullShare x11 ∗ owns (c : Thread nD τ) sc12 fullShare x12
    ∗ (∃ d, owns (c : Thread nD τ) sc13 fullShare d) ∗ owns (c : Thread nD τ) sc14 fullShare x14 ∗ owns (c : Thread nD τ) sc15 fullShare x15
    ∗ owns (c : Thread nD τ) sc16 fullShare x16 ∗ (∃ d, owns (c : Thread nD τ) sc17 fullShare d))

/-- The scratch at anything. -/
def AnyScratch (c : Dev nD) : sProp 𝕄 :=
  iprop((∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d) ∗ (∃ d, owns (c : Thread nD τ) sc16 fullShare d) ∗ (∃ d, owns (c : Thread nD τ) sc17 fullShare d))

theorem forget (A : Args) (b : Fin 2) (c : Dev nD) : Held A b c ⊢ AnyScratch c := by
  unfold Held AnyScratch
  iintro ⟨%x11, %x12, %x14, %x15, %x16, -, S11, S12, S13, S14, S15, S16, S17⟩
  isplitl [S11]; · iexists _; iexact S11
  isplitl [S12]; · iexists _; iexact S12
  isplitl [S13]; · iexact S13
  isplitl [S14]; · iexists _; iexact S14
  isplitl [S15]; · iexists _; iexact S15
  isplitl [S16]; · iexists _; iexact S16
  iexact S17

/-- A buffer whose stores cover it is owned at what they spell. -/
theorem owns_of {sp : Space} {s : Shape} {e : EltTy} (c : Dev nD) (M : Memref sig .tc sp s e) (L : List (View.Piece (Elt Ideal) s e)) (X : Vec Ideal s e)
    (h : ∀ f, M.view.read (Elt Ideal) (M.view.writes (Elt Ideal) f L) = X) :
    iprop(∃ f, M.view.loc (c : Thread nD τ) ↦[M.view.set]{fullShare} M.view.writes (Elt Ideal) f L)
      ⊢ (iprop(owns (c : Thread nD τ) M fullShare X) : sProp 𝕄) := by
  iintro ⟨%f, H⟩
  unfold owns
  iexists _; isplitr
  · ipureintro; exact h f
  iexact H

section Body

variable (c : Dev nD) (t : Fin cfg0.N) (A : Args) (b : Fin 2)
  (x2 : Vec Ideal S1x30x256x96 .fp8e4m3) (x3 : Vec Ideal S1x30x256 .f32) (x4 : Vec Ideal S1x6x768x96 .fp8e4m3) (x5 : Vec Ideal S1x768x6 .f32) (x6 : Vec Ideal S1x6x768x96 .fp8e4m3) (x7 : Vec Ideal S1x768x6 .f32) (x8 : Vec Ideal S1x30x112 .i32) (x9 : Vec Ideal S1x30x320 .i32)

/-- The input buffers at stated contents. -/
def Ins : sProp 𝕄 :=
  iprop(owns (c : Thread nD τ) (ms0 t) fullShare x2 ∗ owns (c : Thread nD τ) (ms1 t) fullShare x3 ∗ owns (c : Thread nD τ) (ms2 t) fullShare x4 ∗ owns (c : Thread nD τ) (ms3 t) fullShare x5 ∗ owns (c : Thread nD τ) (ms4 t) fullShare x6 ∗ owns (c : Thread nD τ) (ms5 t) fullShare x7 ∗ owns (c : Thread nD τ) (ms6 t) fullShare x8 ∗ owns (c : Thread nD τ) (ms7 t) fullShare x9)

set_option maxHeartbeats 1600000 in
/-- A run of the body from which the block and the carried buffers can be read gives the body's statement at a batch's first point. -/
theorem first_of (x11 : Vec Ideal S6x128x128 .i32) (x12 : Vec Ideal S6x128x128 .i32) (x13 : Vec Ideal S768x256 .i32) (x14 : Vec Ideal S6x768x128 .f32) (x15 : Vec Ideal S6x768x128 .f32) (x16 : Vec Ideal S6x96x768 .bf16) (x17 : Vec Ideal S2880x256 .bf16)
    (y11 y12 : Vec Ideal S6x128x128 .i32) (y14 y15 : Vec Ideal S6x768x128 .f32) (y16 : Vec Ideal S6x96x768 .bf16) (hT : Carried A b y11 y12 y14 y15 y16)
    (r : Σ' (L10 : List (View.Piece (Elt Ideal) S1x256x2880 .bf16)) (L11 : List (View.Piece (Elt Ideal) S6x128x128 .i32)) (L12 : List (View.Piece (Elt Ideal) S6x128x128 .i32)) (L13 : List (View.Piece (Elt Ideal) S768x256 .i32)) (L14 : List (View.Piece (Elt Ideal) S6x768x128 .f32)) (L15 : List (View.Piece (Elt Ideal) S6x768x128 .f32)) (L16 : List (View.Piece (Elt Ideal) S6x96x768 .bf16)), { L17 : List (View.Piece (Elt Ideal) S2880x256 .bf16) //
      ∀ (E : Set ℕ) (K : PUnit → sProp 𝕄),
        iprop(owns (c : Thread nD τ) (ms0 t) fullShare x2 ∗ owns (c : Thread nD τ) (ms1 t) fullShare x3 ∗ owns (c : Thread nD τ) (ms2 t) fullShare x4 ∗ owns (c : Thread nD τ) (ms3 t) fullShare x5 ∗ owns (c : Thread nD τ) (ms4 t) fullShare x6 ∗ owns (c : Thread nD τ) (ms5 t) fullShare x7 ∗ owns (c : Thread nD τ) (ms6 t) fullShare x8 ∗ owns (c : Thread nD τ) (ms7 t) fullShare x9 ∗ (∃ d, owns (c : Thread nD τ) (ms8 t) fullShare d) ∗ owns (c : Thread nD τ) sc11 fullShare x11 ∗ owns (c : Thread nD τ) sc12 fullShare x12 ∗ owns (c : Thread nD τ) sc13 fullShare x13 ∗ owns (c : Thread nD τ) sc14 fullShare x14 ∗ owns (c : Thread nD τ) sc15 fullShare x15 ∗ owns (c : Thread nD τ) sc16 fullShare x16 ∗ owns (c : Thread nD τ) sc17 fullShare x17
            ∗ (iprop(owns (c : Thread nD τ) (ms0 t) fullShare x2 ∗ owns (c : Thread nD τ) (ms1 t) fullShare x3 ∗ owns (c : Thread nD τ) (ms2 t) fullShare x4 ∗ owns (c : Thread nD τ) (ms3 t) fullShare x5 ∗ owns (c : Thread nD τ) (ms4 t) fullShare x6 ∗ owns (c : Thread nD τ) (ms5 t) fullShare x7 ∗ owns (c : Thread nD τ) (ms6 t) fullShare x8 ∗ owns (c : Thread nD τ) (ms7 t) fullShare x9 ∗ (∃ f, (ms8 t).view.loc (c : Thread nD τ) ↦[(ms8 t).view.set]{fullShare} (ms8 t).view.writes (Elt Ideal) f L10) ∗ (∃ f, sc11.view.loc (c : Thread nD τ) ↦[sc11.view.set]{fullShare} sc11.view.writes (Elt Ideal) f L11) ∗ (∃ f, sc12.view.loc (c : Thread nD τ) ↦[sc12.view.set]{fullShare} sc12.view.writes (Elt Ideal) f L12) ∗ (∃ f, sc13.view.loc (c : Thread nD τ) ↦[sc13.view.set]{fullShare} sc13.view.writes (Elt Ideal) f L13) ∗ (∃ f, sc14.view.loc (c : Thread nD τ) ↦[sc14.view.set]{fullShare} sc14.view.writes (Elt Ideal) f L14) ∗ (∃ f, sc15.view.loc (c : Thread nD τ) ↦[sc15.view.set]{fullShare} sc15.view.writes (Elt Ideal) f L15) ∗ (∃ f, sc16.view.loc (c : Thread nD τ) ↦[sc16.view.set]{fullShare} sc16.view.writes (Elt Ideal) f L16) ∗ (∃ f, sc17.view.loc (c : Thread nD τ) ↦[sc17.view.set]{fullShare} sc17.view.writes (Elt Ideal) f L17)) -∗ K ⟨⟩))
          ⊢ wp frame (wpE (defs₀ (F := Ideal)) Variants.none c none) E (cc0__attention_kernel (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _)) K })
    (h10 : ∀ f, (ms8 t).view.read (Elt Ideal) ((ms8 t).view.writes (Elt Ideal) f r.1) = outBlk A b 0)
    (h11 : ∀ f, sc11.view.read (Elt Ideal) (sc11.view.writes (Elt Ideal) f r.2.1) = y11)
    (h12 : ∀ f, sc12.view.read (Elt Ideal) (sc12.view.writes (Elt Ideal) f r.2.2.1) = y12)
    (h14 : ∀ f, sc14.view.read (Elt Ideal) (sc14.view.writes (Elt Ideal) f r.2.2.2.2.1) = y14)
    (h15 : ∀ f, sc15.view.read (Elt Ideal) (sc15.view.writes (Elt Ideal) f r.2.2.2.2.2.1) = y15)
    (h16 : ∀ f, sc16.view.read (Elt Ideal) (sc16.view.writes (Elt Ideal) f r.2.2.2.2.2.2.1) = y16) (K : PUnit → sProp 𝕄) :
    iprop(Ins c t x2 x3 x4 x5 x6 x7 x8 x9 ∗ (∃ d, owns (c : Thread nD τ) (ms8 t) fullShare d)
        ∗ iprop(owns (c : Thread nD τ) sc11 fullShare x11 ∗ owns (c : Thread nD τ) sc12 fullShare x12 ∗ owns (c : Thread nD τ) sc13 fullShare x13 ∗ owns (c : Thread nD τ) sc14 fullShare x14 ∗ owns (c : Thread nD τ) sc15 fullShare x15 ∗ owns (c : Thread nD τ) sc16 fullShare x16 ∗ owns (c : Thread nD τ) sc17 fullShare x17)
        ∗ (iprop(Ins c t x2 x3 x4 x5 x6 x7 x8 x9 ∗ owns (c : Thread nD τ) (ms8 t) fullShare (outBlk A b 0) ∗ Held A b c) -∗ K ⟨⟩))
      ⊢ wp frame (wpE (defs₀ (F := Ideal)) Variants.none c none) Set.univ (bodyAt0 t) K := by
  unfold bodyAt0 Ins Held
  iintro ⟨⟨H2, H3, H4, H5, H6, H7, H8, H9⟩, H10, ⟨H11, H12, H13, H14, H15, H16, H17⟩, Hk⟩
  obtain ⟨L10, L11, L12, L13, L14, L15, L16, L17, hrun⟩ := r
  dsimp only at h10 h11 h12 h14 h15 h16
  iapply hrun Set.univ K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, H12, H13, H14, H15, H16, H17⟩
  iapply Hk
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iapply owns_of c (ms8 t) L10 _ h10; iexact H10
  iexists y11, y12, y14, y15, y16
  isplitr; · ipureintro; exact hT
  isplitl [H11]; · iapply owns_of c sc11 L11 _ h11; iexact H11
  isplitl [H12]; · iapply owns_of c sc12 L12 _ h12; iexact H12
  isplitl [H13]; · iapply some_owns c sc13 L13; iexact H13
  isplitl [H14]; · iapply owns_of c sc14 L14 _ h14; iexact H14
  isplitl [H15]; · iapply owns_of c sc15 L15 _ h15; iexact H15
  isplitl [H16]; · iapply owns_of c sc16 L16 _ h16; iexact H16
  iapply some_owns c sc17 L17; iexact H17

set_option maxHeartbeats 1600000 in
/-- The body at a batch's first point: it stores the result's block 0 and leaves the batch's data in the scratch. -/
theorem body_first (ht : t.val % 3 = 0) (R : Reads A b x2 x3 x4 x5 x6 x7 x8 x9) (K : PUnit → sProp 𝕄) :
    iprop(Ins c t x2 x3 x4 x5 x6 x7 x8 x9 ∗ (∃ d, owns (c : Thread nD τ) (ms8 t) fullShare d) ∗ AnyScratch c
        ∗ (iprop(Ins c t x2 x3 x4 x5 x6 x7 x8 x9 ∗ owns (c : Thread nD τ) (ms8 t) fullShare (outBlk A b 0) ∗ Held A b c) -∗ K ⟨⟩))
      ⊢ wp frame (wpE (defs₀ (F := Ideal)) Variants.none c none) Set.univ (bodyAt0 t) K := by
  unfold AnyScratch
  iintro ⟨HI, H10, ⟨⟨%x11, H11⟩, ⟨%x12, H12⟩, ⟨%x13, H13⟩, ⟨%x14, H14⟩, ⟨%x15, H15⟩, ⟨%x16, H16⟩, ⟨%x17, H17⟩⟩, Hk⟩
  have hc1 : k0_first (grid0.coords t) := (first_iff t).mpr ht
  have hc2 : k0_cond2 (grid0.coords t) = 1#1 := (cond2_iff t).mpr ht
  have hc3 : ¬k0_cond3 (grid0.coords t) = 1#1 := fun h => by have := (cond3_iff t).mp h; omega
  have hc4 : ¬k0_cond4 (grid0.coords t) = 1#1 := fun h => by have := (cond4_iff t).mp h; omega
  have hH := CaseA.holds A b x2 x3 x4 x5 x6 x7 x8 x9 R
  have hG := Tables.good c (ms6 t) (hs6 t) (ms7 t) (hs7 t) x8 x9 A b R.vert R.slash
  have h10 := fun f => funext (CaseA.out_read A b c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) hc1 hc2 hc3 hc4 x2 x3 x4 x5 x6 x7 x8 x9 x11 x12 x13 x14 x15 x16 x17 R f)
  have h11 := CaseA.slash_after c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) hc1 hc2 hc3 hc4 x2 x3 x4 x5 x6 x7 x8 x9 x11 x12 x13 x14 x15 x16 x17
  have h12 := CaseA.vert_after c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) hc1 hc2 hc3 hc4 x2 x3 x4 x5 x6 x7 x8 x9 x11 x12 x13 x14 x15 x16 x17
  have h14 := CaseA.ks_after c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) hc1 hc2 hc3 hc4 x2 x3 x4 x5 x6 x7 x8 x9 x11 x12 x13 x14 x15 x16 x17
  have h15 := CaseA.vs_after c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) hc1 hc2 hc3 hc4 x2 x3 x4 x5 x6 x7 x8 x9 x11 x12 x13 x14 x15 x16 x17
  have h16 := CaseA.v_after c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) hc1 hc2 hc3 hc4 x2 x3 x4 x5 x6 x7 x8 x9 x11 x12 x13 x14 x15 x16 x17
  iapply first_of c t A b x2 x3 x4 x5 x6 x7 x8 x9 x11 x12 x13 x14 x15 x16 x17 _ _ _ _ _ ⟨hG, hH.ks, hH.vs, hH.v⟩ (runA (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) hc1 hc2 hc3 hc4 x2 x3 x4 x5 x6 x7 x8 x9 x11 x12 x13 x14 x15 x16 x17) h10 h11 h12 h14 h15 h16 K
  isplitl [HI]; · iexact HI
  isplitl [H10]; · iexact H10
  isplitl [H11 H12 H13 H14 H15 H16 H17]
  · isplitl [H11]; · iexact H11
    isplitl [H12]; · iexact H12
    isplitl [H13]; · iexact H13
    isplitl [H14]; · iexact H14
    isplitl [H15]; · iexact H15
    isplitl [H16]; · iexact H16
    iexact H17
  iexact Hk

set_option maxHeartbeats 1600000 in
/-- The body at a batch's second point: it stores the result's block 1 and keeps the batch's data in the scratch. -/
theorem body_second (ht : t.val % 3 = 1) (hq : ∀ h i d, x2 (ix4 0 h i d) = A.q b (qpos 1 i) h d) (hqs : ∀ h i, x3 (ix3 0 h i) = A.qs b (qpos 1 i) h) (hk : ∀ g j d, x4 (ix4 0 g j d) = A.k b j g d) (K : PUnit → sProp 𝕄) :
    iprop(Ins c t x2 x3 x4 x5 x6 x7 x8 x9 ∗ (∃ d, owns (c : Thread nD τ) (ms8 t) fullShare d) ∗ Held A b c
        ∗ (iprop(Ins c t x2 x3 x4 x5 x6 x7 x8 x9 ∗ owns (c : Thread nD τ) (ms8 t) fullShare (outBlk A b 1) ∗ Held A b c) -∗ K ⟨⟩))
      ⊢ wp frame (wpE (defs₀ (F := Ideal)) Variants.none c none) Set.univ (bodyAt0 t) K := by
  unfold bodyAt0 Ins Held
  iintro ⟨⟨H2, H3, H4, H5, H6, H7, H8, H9⟩, H10, ⟨%x11, %x12, %x14, %x15, %x16, %hC, H11, H12, ⟨%x13, H13⟩, H14, H15, H16, ⟨%x17, H17⟩⟩, Hk⟩
  have hc1 : ¬k0_first (grid0.coords t) := fun h => by have := (first_iff t).mp h; omega
  have hc2 : ¬k0_cond2 (grid0.coords t) = 1#1 := fun h => by have := (cond2_iff t).mp h; omega
  have hc3 : k0_cond3 (grid0.coords t) = 1#1 := (cond3_iff t).mpr ht
  have hc4 : ¬k0_cond4 (grid0.coords t) = 1#1 := fun h => by have := (cond4_iff t).mp h; omega
  have h10 := fun f => funext (CaseB.out_read A b c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) hc1 hc2 hc3 hc4 x2 x3 x4 x5 x6 x7 x8 x9 x11 x12 x13 x14 x15 x16 x17 hC.good ⟨hq, hqs, hk, hC.ks, hC.vs, hC.v⟩ f)
  generalize runB (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) hc1 hc2 hc3 hc4 x2 x3 x4 x5 x6 x7 x8 x9 x11 x12 x13 x14 x15 x16 x17 = r at h10
  obtain ⟨L10, L13, L17, hrun⟩ := r
  dsimp only at h10
  iapply hrun Set.univ K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, H12, H13, H14, H15, H16, H17⟩
  iapply Hk
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iapply owns_of c (ms8 t) L10 _ h10; iexact H10
  iexists x11, x12, x14, x15, x16
  isplitr; · ipureintro; exact hC
  isplitl [H11]; · iexact H11
  isplitl [H12]; · iexact H12
  isplitl [H13]; · iapply some_owns c sc13 L13; iexact H13
  isplitl [H14]; · iexact H14
  isplitl [H15]; · iexact H15
  isplitl [H16]; · iexact H16
  iapply some_owns c sc17 L17; iexact H17

set_option maxHeartbeats 1600000 in
/-- The body at a batch's third point: it stores the result's block 2 and keeps the batch's data in the scratch. -/
theorem body_third (ht : t.val % 3 = 2) (hq : ∀ h i d, x2 (ix4 0 h i d) = A.q b (qpos 2 i) h d) (hqs : ∀ h i, x3 (ix3 0 h i) = A.qs b (qpos 2 i) h) (hk : ∀ g j d, x4 (ix4 0 g j d) = A.k b j g d) (K : PUnit → sProp 𝕄) :
    iprop(Ins c t x2 x3 x4 x5 x6 x7 x8 x9 ∗ (∃ d, owns (c : Thread nD τ) (ms8 t) fullShare d) ∗ Held A b c
        ∗ (iprop(Ins c t x2 x3 x4 x5 x6 x7 x8 x9 ∗ owns (c : Thread nD τ) (ms8 t) fullShare (outBlk A b 2) ∗ Held A b c) -∗ K ⟨⟩))
      ⊢ wp frame (wpE (defs₀ (F := Ideal)) Variants.none c none) Set.univ (bodyAt0 t) K := by
  unfold bodyAt0 Ins Held
  iintro ⟨⟨H2, H3, H4, H5, H6, H7, H8, H9⟩, H10, ⟨%x11, %x12, %x14, %x15, %x16, %hC, H11, H12, ⟨%x13, H13⟩, H14, H15, H16, ⟨%x17, H17⟩⟩, Hk⟩
  have hc1 : ¬k0_first (grid0.coords t) := fun h => by have := (first_iff t).mp h; omega
  have hc2 : ¬k0_cond2 (grid0.coords t) = 1#1 := fun h => by have := (cond2_iff t).mp h; omega
  have hc3 : ¬k0_cond3 (grid0.coords t) = 1#1 := fun h => by have := (cond3_iff t).mp h; omega
  have hc4 : k0_cond4 (grid0.coords t) = 1#1 := (cond4_iff t).mpr ht
  have h10 := fun f => funext (CaseC.out_read A b c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) hc1 hc2 hc3 hc4 x2 x3 x4 x5 x6 x7 x8 x9 x11 x12 x13 x14 x15 x16 x17 hC.good ⟨hq, hqs, hk, hC.ks, hC.vs, hC.v⟩ f)
  generalize runC (F := Ideal) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc11 (Memref.isWhole_whole _) sc12 (Memref.isWhole_whole _) sc13 (Memref.isWhole_whole _) sc14 (Memref.isWhole_whole _) sc15 (Memref.isWhole_whole _) sc16 (Memref.isWhole_whole _) sc17 (Memref.isWhole_whole _) hc1 hc2 hc3 hc4 x2 x3 x4 x5 x6 x7 x8 x9 x11 x12 x13 x14 x15 x16 x17 = r at h10
  obtain ⟨L10, L13, L17, hrun⟩ := r
  dsimp only at h10
  iapply hrun Set.univ K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, H12, H13, H14, H15, H16, H17⟩
  iapply Hk
  isplitl [H2 H3 H4 H5 H6 H7 H8 H9]
  · isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iapply owns_of c (ms8 t) L10 _ h10; iexact H10
  iexists x11, x12, x14, x15, x16
  isplitr; · ipureintro; exact hC
  isplitl [H11]; · iexact H11
  isplitl [H12]; · iexact H12
  isplitl [H13]; · iapply some_owns c sc13 L13; iexact H13
  isplitl [H14]; · iexact H14
  isplitl [H15]; · iexact H15
  isplitl [H16]; · iexact H16
  iapply some_owns c sc17 L17; iexact H17

end Body

end Cert.KernelIdeal.Exact

end
-- ==== Proof.Exact.lean ====
module

public import proofs.«01_k».proof.Proof.Bodies

@[expose] public section

set_option maxRecDepth 16384

noncomputable section

namespace Cert.KernelIdeal.Exact

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Blocks
open Cert.KernelIdeal.Run (ms0 ms1 ms2 ms3 ms4 ms5 ms6 ms7 ms8 PhiA_eq)
open Cert.KernelIdeal.Head Cert.KernelIdeal.Out
open Cert.Spec

local notation "𝕄" => MT nD τ sig Unit (Elt Ideal) ℕ (UR sig nD τ) ℕ

variable (m : (ℓ : Loc nD τ sig) → Buf (Elt Ideal) ℓ) (ρ : Dev nD → PrngReg)

/-! ## The scratch between points -/

/-- The batch a point belongs to, at any number. -/
def bat (n : ℕ) : Fin 2 := ⟨n / 3 % 2, Nat.mod_lt _ (by decide)⟩

theorem bat_eq (t : Fin cfg0.N) : bat t.val = bOf t := Fin.ext (by
  have := lt_of_lt_of_eq t.isLt N_0
  show t.val / 3 % 2 = t.val / 3; omega)

theorem bat_next (t : Fin cfg0.N) (h : t.val % 3 ≠ 2) : bat (t.val + 1) = bOf t := Fin.ext (by
  have := lt_of_lt_of_eq t.isLt N_0
  show (t.val + 1) / 3 % 2 = t.val / 3; omega)

/-- Before a batch's first point (and at the end) the scratch is at anything; before its other points it holds the batch's data. -/
def PhiS (c : Dev nD) (n : ℕ) : sProp 𝕄 :=
  if n % 3 = 0 then Pipeline.ΦA spec0 c else iprop(Held (argsOf m c) (bat n) c ∗ (∃ r, prngReg c r))

theorem PhiS_any (c : Dev nD) (n : ℕ) (h : n % 3 = 0) : PhiS m c n = iprop(AnyScratch c ∗ (∃ r, prngReg c r)) := by
  unfold PhiS; rw [if_pos h, PhiA_eq]; rfl

theorem PhiS_held (c : Dev nD) (n : ℕ) (h : n % 3 ≠ 0) : PhiS m c n = iprop(Held (argsOf m c) (bat n) c ∗ (∃ r, prngReg c r)) := by
  unfold PhiS; rw [if_neg h]

/-- The blocks a point reads are its batch's arguments. -/
theorem reads (c : Dev nD) (t : Fin cfg0.N) (h : t.val % 3 = 0) : CaseA.Reads (argsOf m c) (bOf t) (iblk m c 0 t) (iblk m c 1 t) (iblk m c 2 t) (iblk m c 3 t) (iblk m c 4 t) (iblk m c 5 t) (iblk m c 6 t) (iblk m c 7 t) where
  q := fun h' i d => (blk_q m c t h' i d).trans (by rw [show uOf t = 0 from Fin.ext h])
  qs := fun h' i => (blk_qs m c t h' i).trans (by rw [show uOf t = 0 from Fin.ext h])
  k := blk_k m c t
  ks := blk_ks m c t
  v := blk_v m c t
  vs := blk_vs m c t
  vert := blk_vert m c t
  slash := blk_slash m c t

/-- The body at any point: it stores the result's block at the point's batch and query block, and moves the scratch on. -/
theorem point (c : Dev nD) (t : Fin cfg0.N) (K : PUnit → sProp 𝕄) :
    iprop(PhiS m c t.val ∗ Ins c t (iblk m c 0 t) (iblk m c 1 t) (iblk m c 2 t) (iblk m c 3 t) (iblk m c 4 t) (iblk m c 5 t) (iblk m c 6 t) (iblk m c 7 t) ∗ (∃ d, owns (c : Thread nD τ) (ms8 t) fullShare d)
        ∗ (iprop(PhiS m c (t.val + 1) ∗ Ins c t (iblk m c 0 t) (iblk m c 1 t) (iblk m c 2 t) (iblk m c 3 t) (iblk m c 4 t) (iblk m c 5 t) (iblk m c 6 t) (iblk m c 7 t) ∗ owns (c : Thread nD τ) (ms8 t) fullShare (outBlk (argsOf m c) (bOf t) (uOf t))) -∗ K ⟨⟩))
      ⊢ wp frame (wpE (defs₀ (F := Ideal)) Variants.none c none) Set.univ (bodyAt0 t) K := by
  rcases (by omega : t.val % 3 = 0 ∨ t.val % 3 = 1 ∨ t.val % 3 = 2) with h | h | h
  · rw [PhiS_any m c _ h, PhiS_held m c (t.val + 1) (by omega), bat_next t (by omega), show uOf t = 0 from Fin.ext h]
    iintro ⟨⟨HS, Hg⟩, HI, H8, Hk⟩
    iapply body_first c t (argsOf m c) (bOf t) (iblk m c 0 t) (iblk m c 1 t) (iblk m c 2 t) (iblk m c 3 t) (iblk m c 4 t) (iblk m c 5 t) (iblk m c 6 t) (iblk m c 7 t) h (reads m c t h) K
    isplitl [HI]; · iexact HI
    isplitl [H8]; · iexact H8
    isplitl [HS]; · iexact HS
    iintro ⟨HI, H8, HS⟩
    iapply Hk
    isplitl [HS Hg]
    · isplitl [HS]; · iexact HS
      iexact Hg
    isplitl [HI]; · iexact HI
    iexact H8
  · have hu : uOf t = 1 := Fin.ext h
    rw [PhiS_held m c _ (by omega), PhiS_held m c (t.val + 1) (by omega), bat_next t (by omega), bat_eq, hu]
    iintro ⟨⟨HS, Hg⟩, HI, H8, Hk⟩
    iapply body_second c t (argsOf m c) (bOf t) (iblk m c 0 t) (iblk m c 1 t) (iblk m c 2 t) (iblk m c 3 t) (iblk m c 4 t) (iblk m c 5 t) (iblk m c 6 t) (iblk m c 7 t) h (fun h' i d => (blk_q m c t h' i d).trans (by rw [hu])) (fun h' i => (blk_qs m c t h' i).trans (by rw [hu])) (blk_k m c t) K
    isplitl [HI]; · iexact HI
    isplitl [H8]; · iexact H8
    isplitl [HS]; · iexact HS
    iintro ⟨HI, H8, HS⟩
    iapply Hk
    isplitl [HS Hg]
    · isplitl [HS]; · iexact HS
      iexact Hg
    isplitl [HI]; · iexact HI
    iexact H8
  · have hu : uOf t = 2 := Fin.ext h
    rw [PhiS_held m c _ (by omega), PhiS_any m c (t.val + 1) (by omega), bat_eq, hu]
    iintro ⟨⟨HS, Hg⟩, HI, H8, Hk⟩
    iapply body_third c t (argsOf m c) (bOf t) (iblk m c 0 t) (iblk m c 1 t) (iblk m c 2 t) (iblk m c 3 t) (iblk m c 4 t) (iblk m c 5 t) (iblk m c 6 t) (iblk m c 7 t) h (fun h' i d => (blk_q m c t h' i d).trans (by rw [hu])) (fun h' i => (blk_qs m c t h' i).trans (by rw [hu])) (blk_k m c t) K
    isplitl [HI]; · iexact HI
    isplitl [H8]; · iexact H8
    isplitl [HS]; · iexact HS
    iintro ⟨HI, H8, HS⟩
    iapply Hk
    isplitl [HS Hg]
    · isplitl [HS]; · iapply forget (argsOf m c) (bOf t) c; iexact HS
      iexact Hg
    isplitl [HI]; · iexact HI
    iexact H8

/-! ## The proof data -/

/-- Every input's buffer at its block of the array the region finds, the output's at the result's block; the scratch as `PhiS` says. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlk (argsOf m c) (bOf t) (uOf t)
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outBlk (argsOf m c) (bOf t) (uOf t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before_0, before_1, before_2, before_3, before_4, before_5, before_6, before_7, after_0, after_1, after_2, after_3, after_4, after_5, after_6, after_7, after_8]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply point m c t _
  unfold Ins
  isplitl [HP]; · iexact HP
  isplitl [H0 H1 H2 H3 H4 H5 H6 H7]
  · skip
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexists _; iexact H8
  iintro ⟨HP, ⟨H0, H1, H2, H3, H4, H5, H6, H7⟩, H8⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's obligation at every point. -/
theorem body_obligation (c : Dev nD) : BodyObligation (dats m 0 c) (defs₀ (F := Ideal)) Variants.none () Set.univ := fun t => by
  rw [bigSep_W0, bigSep_W0, Run.defs₀_row]
  exact triple_restated (sound_body m c t) rfl .rfl fun _ => .rfl

/-- The launch hands the region the scratch at anything, -/
theorem hin (c : Dev nD) : Pipeline.ΦA spec0 c ⊢ (dats m 0 c).Φ 0 := by
  rw [show (dats m 0 c).Φ 0 = PhiS m c 0 from rfl, PhiS, if_pos rfl]
  try exact Idealize.SL.BI.Entails.refl _

/-- and gets it back so. -/
theorem hout (c : Dev nD) : (dats m 0 c).Φ (Fin.last cfg0.N) ⊢ Pipeline.ΦA spec0 c := by
  rw [show (dats m 0 c).Φ (Fin.last cfg0.N) = PhiS m c cfg0.N from rfl, PhiS, if_pos (by rw [show cfg0.N = 6 from N_0])]
  try exact Idealize.SL.BI.Entails.refl _

set_option backward.isDefEq.respectTransparency.types false in
/-- The launch: it ends, every array of the pipeline at what the proof data says, every semaphore counter at zero. -/
theorem run_main : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-! ## The result array -/

/-- The kernel's result at row `i` and column `96 h + d` of batch `b`: the result at query `i`, head `h`, coordinate `d`. -/
def target (A : Args) (y : S2x768x2880.Idx) : EReal :=
  out A (y 0) (y 1) ⟨(y 2).val / 96, by have h : (y 2).val < 2880 := (y 2).isLt; omega⟩ ⟨(y 2).val % 96, Nat.mod_lt _ (by decide)⟩

theorem out_idx : ∀ t : Fin cfg0.N, win0_8.index t = ![t.val / 3, t.val % 3, 0] :=
  (by decide +kernel : ∀ t : Fin grid0.N, _)

/-- A block's row and column in the array. -/
theorem outBlk_target (A : Args) (t : Fin cfg0.N) (y : S1x256x2880.Idx) (z : S2x768x2880.Idx)
    (h0 : (z 0).val = t.val / 3) (h1 : (z 1).val = t.val % 3 * 256 + (y 1).val) (h2 : (z 2).val = (y 2).val) :
    outBlk A (bOf t) (uOf t) y = target A z := by
  unfold outBlk target
  congr 1
  · exact Fin.ext h0.symm
  · exact Fin.ext (h1.trans (by show _ = 256 * (t.val % 3) + (y 1).val; omega)).symm
  · exact Fin.ext (by show (y 2).val / 96 = (z 2).val / 96; rw [h2])
  · exact Fin.ext (by show (y 2).val % 96 = (z 2).val % 96; rw [h2])

/-- The result array after the run. -/
theorem final (c : Dev nD) : (dats m 0 c).arrAt 8 cfg0.N = target (argsOf m c) := by
  refine (dats m 0 c).arrAt_eq_of_covers 8 _ (by decide +kernel) fun t _ y => ?_
  blk_simp
  rw [after_8]
  refine outBlk_target (argsOf m c) t y _ ?_ ?_ ?_
  · blk_simp [out_idx t] <;> (try (idx_bounds; omega))
  · blk_simp [out_idx t] <;> (try (idx_bounds; omega))
  · blk_simp [out_idx t] <;> (try (idx_bounds; omega))

/-- Every fair execution ends with the result array at the specification and the argument arrays unchanged. -/
theorem run : θ_run defs (onTc (τ := τ) (main (F := Ideal))) ⟨m, fun _ => 0, ρ⟩ (fun r => ∀ c : Dev nD,
      r.2.mem ((c.tc : Thread nD τ).loc main_v4) = target (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 8).trans (final m c),
    ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 3).trans (((dats m 0 c).arrAt_in 3 rfl _).trans ((A_eq m c 3).trans (V_main_arg3 m c))),
      ((h.1 c).2 main_arg4 (Pipeline.mem_restRefs_of main_arg4 (by decide) (by decide))).trans (V_main_arg4 m c),
      ((h.1 c).1 5).trans (((dats m 0 c).arrAt_in 5 rfl _).trans ((A_eq m c 5).trans (V_main_arg5 m c))),
      ((h.1 c).1 6).trans (((dats m 0 c).arrAt_in 6 rfl _).trans ((A_eq m c 6).trans (V_main_arg6 m c))),
      ((h.1 c).1 7).trans (((dats m 0 c).arrAt_in 7 rfl _).trans ((A_eq m c 7).trans (V_main_arg7 m c)))⟩) (run_main m ρ)

end Cert.KernelIdeal.Exact

end
-- ==== Proof.RefValue.lean ====
module

public import proofs.«01_k».proof.Proof.Spec
public import Idealize.ShloMosaic.Lib.ValueIdxCore
public import proofs.«01_k».proof.Proof.Gen.ReferenceIdeal.Read

@[expose] public section

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Cert.Row Cert.Spec Idealize.ShloMosaic.ValueIdx

/-! ## Bits -/

theorem or_one : ∀ a b : BitVec 1, IntOp.ori a b = 1#1 ↔ a = 1#1 ∨ b = 1#1 := by decide
theorem and_one : ∀ a b : BitVec 1, IntOp.andi a b = 1#1 ↔ a = 1#1 ∧ b = 1#1 := by decide

instance : Std.Commutative (IntOp.ori : BitVec 1 → BitVec 1 → BitVec 1) := ⟨by decide⟩
instance : Std.Associative (IntOp.ori : BitVec 1 → BitVec 1 → BitVec 1) := ⟨by decide⟩

/-- The disjunction of a family of bits is set exactly when one of them is. -/
theorem fold_or {ι : Type} [DecidableEq ι] (S : Finset ι) (g : ι → BitVec 1) : S.fold IntOp.ori 0#1 g = 1#1 ↔ ∃ k ∈ S, g k = 1#1 := by
  induction S using Finset.induction_on with
  | empty => simp
  | insert a S ha ih => rw [Finset.fold_insert ha, or_one, ih]; simp

theorem eq_one {w : ℕ} (a b : BitVec w) : IntOp.cmpi .eq a b = 1#1 ↔ a = b := by
  unfold IntOp.cmpi
  show BitVec.ofBool (a == b) = 1#1 ↔ a = b
  by_cases h : a = b
  · subst h; simp
  · rw [beq_eq_false_iff_ne.mpr h]; simp only [h, iff_false]; decide

/-- The difference of two positions, as a word, is at least zero exactly when the second is not after the first. -/
theorem sge_one (i j : Fin 768) : IntOp.cmpi .sge (IntOp.subi (BitVec.ofNat 32 i.val) (BitVec.ofNat 32 j.val)) 0#32 = 1#1 ↔ j.val ≤ i.val := by
  have hi := i.isLt
  have hj := j.isLt
  have e : (BitVec.ofNat 32 i.val - BitVec.ofNat 32 j.val).toInt = (i.val : ℤ) - j.val := by
    rw [BitVec.toInt_eq_toNat_cond, BitVec.toNat_sub, BitVec.toNat_ofNat, BitVec.toNat_ofNat]
    split <;> omega
  unfold IntOp.cmpi IntOp.subi
  show BitVec.ofBool ((0#32).sle (BitVec.ofNat 32 i.val - BitVec.ofNat 32 j.val)) = 1#1 ↔ _
  unfold BitVec.sle
  rw [e]
  by_cases h : j.val ≤ i.val
  · have : (0#32).toInt ≤ (i.val : ℤ) - j.val := by simp; omega
    simp [h, this]
  · have : ¬ (0#32).toInt ≤ (i.val : ℤ) - j.val := by simp; omega
    simp only [this, decide_false, h, iff_false]; decide

theorem sub_ofNat {i j : ℕ} (h : j ≤ i) : BitVec.ofNat 32 i - BitVec.ofNat 32 j = BitVec.ofNat 32 (i - j) := by
  obtain ⟨k, rfl⟩ := Nat.exists_eq_add_of_le h
  rw [Nat.add_sub_cancel_left, BitVec.ofNat_add, BitVec.add_comm, BitVec.add_sub_cancel]

/-! ## The reductions' indices -/

theorem red31 : S2x30x768x112.Reduces [3] S2x30x768 := by decide
theorem red38 : S2x30x768x768x320.Reduces [4] S2x30x768x768 := by decide
theorem red49 : S2x6x5x768x768.Reduces [4] S2x6x5x768 := by decide

theorem lift31 (b : Fin 2) (h : Fin 30) (j : Fin 768) (k : Fin 112) : red31.lift (ix3 b h j) k = ix4 b h j k := by
  funext x
  refine Fin.ext ((Shape.Reduces.lift_val _ _ _ _).trans ?_)
  match x with | ⟨0, _⟩ => rfl | ⟨1, _⟩ => rfl | ⟨2, _⟩ => rfl | ⟨3, _⟩ => rfl

theorem lift38 (b : Fin 2) (h : Fin 30) (i j : Fin 768) (k : Fin 320) : red38.lift (ix4 b h i j) k = ix5 b h i j k := by
  funext x
  refine Fin.ext ((Shape.Reduces.lift_val _ _ _ _).trans ?_)
  match x with | ⟨0, _⟩ => rfl | ⟨1, _⟩ => rfl | ⟨2, _⟩ => rfl | ⟨3, _⟩ => rfl | ⟨4, _⟩ => rfl

theorem lift49 (b : Fin 2) (g : Fin 6) (a : Fin 5) (i j : Fin 768) : red49.lift (ix4 b g a i) j = ix5 b g a i j := by
  funext x
  refine Fin.ext ((Shape.Reduces.lift_val _ _ _ _).trans ?_)
  match x with | ⟨0, _⟩ => rfl | ⟨1, _⟩ => rfl | ⟨2, _⟩ => rfl | ⟨3, _⟩ => rfl | ⟨4, _⟩ => rfl

/-! ## The reference's stages -/

/-- The query head of a group and a place in it. -/
def hd (g : Fin 6) (a : Fin 5) : Fin 30 := ⟨5 * g.val + a.val, by omega⟩

theorem group_hd (g : Fin 6) (a : Fin 5) : group (hd g a) = g := Fin.ext (by show (5 * g.val + a.val) / 5 = g.val; omega)

section Stages

variable (A : Args)
  (x1 : FVec Ideal S2x768x30 .f32) (x3 x5 : FVec Ideal S2x768x6 .f32) (x6 : IVec S2x30x112 32) (x7 : IVec S2x30x320 32)
  (r0 : FVec Ideal S2x768x30x96 .f32) (r1 : FVec Ideal S2x768x6x96 .f32) (r2 : FVec Ideal S2x768x6x96 .bf16) (e0 : FVec Ideal S_ .f32)

/-- The buffers the stages read hold the arguments, and the scale. -/
structure Reads : Prop where
  q : ∀ p, r0 p = A.q (p 0) (p 1) (p 2) (p 3)
  qs : ∀ p, x1 p = A.qs (p 0) (p 1) (p 2)
  k : ∀ p, r1 p = A.k (p 0) (p 1) (p 2) (p 3)
  ks : ∀ p, x3 p = A.ks (p 0) (p 1) (p 2)
  v : ∀ p, r2 p = A.v (p 0) (p 1) (p 2) (p 3)
  vs : ∀ p, x5 p = A.vs (p 0) (p 1) (p 2)
  vert : ∀ p, x6 p = A.vert (p 0) (p 1) (p 2)
  slash : ∀ p, x7 p = A.slash (p 0) (p 1) (p 2)
  scale : ∀ p, e0 p = smScale

variable {A x1 x3 x5 x6 x7 r0 r1 r2 e0}

/-- The scaled scores. -/
theorem scores (R : Reads A x1 x3 x5 x6 x7 r0 r1 r2 e0) (b : Fin 2) (g : Fin 6) (a : Fin 5) (i j : Fin 768) :
    val_main_v18 (F := Ideal) x1 x3 r0 r1 e0 (ix5 b g a i j) = score A b (hd g a) i j := by
  have hb := b.isLt; have hg := g.isLt; have ha := a.isLt; have hi := i.isLt; have hj := j.isLt
  rw [val_main_v18_apply, val_main_v14_apply, val_main_v13_apply, val_main_v17_apply, val_main_v15_apply, val_main_v6_apply, val_main_v5_apply,
    val_main_v4_apply, val_main_v16_apply, val_main_v10_apply, val_main_v8_apply, val_main_v7_apply, val_main_v9_apply, R.qs, R.ks, R.scale]
  unfold score
  rw [group_hd]
  refine congrArg₂ (· * ·) (Finset.sum_congr rfl fun d _ => ?_) (congrArg₂ (· * ·) ?_ rfl)
  · have hd' := d.isLt
    rw [val_main_v3_apply, R.k, R.q]
    refine congrArg₂ (· * ·) rfl ?_
    congr 1
    · exact Fin.ext (show ((((b.val * 768 + i.val) * 6 + g.val) * 5 + a.val) * 96 + d.val) / 2211840 = b.val by omega)
    · exact Fin.ext (show ((((b.val * 768 + i.val) * 6 + g.val) * 5 + a.val) * 96 + d.val) / 2880 % 768 = i.val by omega)
    · exact Fin.ext (show ((((b.val * 768 + i.val) * 6 + g.val) * 5 + a.val) * 96 + d.val) / 96 % 30 = 5 * g.val + a.val by omega)
    · exact Fin.ext (show ((((b.val * 768 + i.val) * 6 + g.val) * 5 + a.val) * 96 + d.val) % 96 = d.val by omega)
  · congr 1
    · exact Fin.ext (show (((b.val * 768 + i.val) * 6 + g.val) * 5 + a.val) / 23040 = b.val by omega)
    · exact Fin.ext (show (((b.val * 768 + i.val) * 6 + g.val) * 5 + a.val) / 30 % 768 = i.val by omega)
    · exact Fin.ext (show (((b.val * 768 + i.val) * 6 + g.val) * 5 + a.val) % 30 = 5 * g.val + a.val by omega)

/-- One comparison with the vertical list. -/
theorem vert_cmp (R : Reads A x1 x3 x5 x6 x7 r0 r1 r2 e0) (b : Fin 2) (h : Fin 30) (j : Fin 768) (k : Fin 112) :
    val_main_v30 (F := Ideal) x6 (ix4 b h j k) = 1#1 ↔ A.vert b h k = BitVec.ofNat 32 j.val := by
  rw [val_main_v30_apply, eq_one, val_main_v28_apply, val_main_v25_apply, val_main_v29_apply, val_main_v27_apply, val_main_v26_apply, val_main_v19_apply, R.vert]
  exact Iff.rfl

/-- The bit "position `j` is in the head's vertical list". -/
theorem vert_bit (R : Reads A x1 x3 x5 x6 x7 r0 r1 r2 e0) (b : Fin 2) (h : Fin 30) (j : Fin 768) :
    val_main_v31 (F := Ideal) x6 (ix3 b h j) = 1#1 ↔ vertHit A b h j.val := by
  unfold val_main_v31
  rw [Host.reduce_eq_fold_single IntOp.ori _ _ _ red31]
  rw [show val_main_c (F := Ideal) (Shape.Idx.first h_S_) = 0#1 from rfl, fold_or]
  unfold vertHit
  constructor
  · rintro ⟨k, -, hk⟩
    exact ⟨k, (vert_cmp R b h j k).mp ((congrArg (val_main_v30 (F := Ideal) x6) (lift31 b h j k)).symm.trans hk)⟩
  · rintro ⟨k, hk⟩
    exact ⟨k, Finset.mem_univ _, (congrArg (val_main_v30 (F := Ideal) x6) (lift31 b h j k)).trans ((vert_cmp R b h j k).mpr hk)⟩

/-- One comparison with the slash list. -/
theorem slash_cmp (R : Reads A x1 x3 x5 x6 x7 r0 r1 r2 e0) (b : Fin 2) (h : Fin 30) (i j : Fin 768) (k : Fin 320) :
    val_main_v37 (F := Ideal) x7 (ix5 b h i j k) = 1#1 ↔ A.slash b h k = BitVec.ofNat 32 i.val - BitVec.ofNat 32 j.val := by
  rw [val_main_v37_apply, eq_one, val_main_v35_apply, val_main_v32_apply, val_main_v36_apply, val_main_v34_apply, val_main_v33_apply, val_main_v24_apply,
    val_main_v22_apply, val_main_v20_apply, val_main_v19_apply, val_main_v23_apply, val_main_v21_apply, val_main_v19_apply, R.slash]
  exact Iff.rfl

/-- The bit "the distance of `i` and `j`, as a word, is in the head's slash list". -/
theorem slash_bit (R : Reads A x1 x3 x5 x6 x7 r0 r1 r2 e0) (b : Fin 2) (h : Fin 30) (i j : Fin 768) :
    val_main_v38 (F := Ideal) x7 (ix4 b h i j) = 1#1 ↔ ∃ n, A.slash b h n = BitVec.ofNat 32 i.val - BitVec.ofNat 32 j.val := by
  unfold val_main_v38
  rw [Host.reduce_eq_fold_single IntOp.ori _ _ _ red38]
  rw [show val_main_c_1 (F := Ideal) (Shape.Idx.first h_S_) = 0#1 from rfl, fold_or]
  constructor
  · rintro ⟨k, -, hk⟩
    exact ⟨k, (slash_cmp R b h i j k).mp ((congrArg (val_main_v37 (F := Ideal) x7) (lift38 b h i j k)).symm.trans hk)⟩
  · rintro ⟨k, hk⟩
    exact ⟨k, Finset.mem_univ _, (congrArg (val_main_v37 (F := Ideal) x7) (lift38 b h i j k)).trans ((slash_cmp R b h i j k).mpr hk)⟩

/-- The bit "query `i` attends to key `j`". -/
theorem allowed_bit (R : Reads A x1 x3 x5 x6 x7 r0 r1 r2 e0) (b : Fin 2) (g : Fin 6) (a : Fin 5) (i j : Fin 768) :
    val_main_v47 (F := Ideal) x6 x7 (ix5 b g a i j) = 1#1 ↔ allowed A b (hd g a) i.val j.val := by
  have hb := b.isLt; have hg := g.isLt; have ha := a.isLt; have hi := i.isLt; have hj := j.isLt
  have e : idx_main_v47 (ix5 b g a i j) = ix4 b (hd g a) i j := by
    funext x
    match x with
    | ⟨0, _⟩ => exact Fin.ext (show ((((b.val * 6 + g.val) * 5 + a.val) * 768 + i.val) * 768 + j.val) / 17694720 = b.val by omega)
    | ⟨1, _⟩ => exact Fin.ext (show ((((b.val * 6 + g.val) * 5 + a.val) * 768 + i.val) * 768 + j.val) / 589824 % 30 = 5 * g.val + a.val by omega)
    | ⟨2, _⟩ => exact Fin.ext (show ((((b.val * 6 + g.val) * 5 + a.val) * 768 + i.val) * 768 + j.val) / 768 % 768 = i.val by omega)
    | ⟨3, _⟩ => exact Fin.ext (show ((((b.val * 6 + g.val) * 5 + a.val) * 768 + i.val) * 768 + j.val) % 768 = j.val by omega)
  rw [val_main_v47_apply, e, val_main_v46_apply, and_one, val_main_v44_apply, or_one, slash_bit R, val_main_v43_apply, val_main_v42_apply]
  rw [show idx_main_v42 (idx_main_v43 (ix4 b (hd g a) i j)) = ix3 b (hd g a) j from by
    funext x; match x with | ⟨0, _⟩ => rfl | ⟨1, _⟩ => rfl | ⟨2, _⟩ => rfl]
  rw [vert_bit R]
  have hc : val_main_v45 (F := Ideal) (ix4 b (hd g a) i j) = 1#1 ↔ j.val ≤ i.val := by
    rw [val_main_v45_apply, val_main_v41_apply, val_main_v40_apply, val_main_v24_apply, val_main_v22_apply, val_main_v20_apply, val_main_v19_apply,
      val_main_v23_apply, val_main_v21_apply, val_main_v19_apply, val_main_v39_apply, val_main_c_2_apply]
    exact sge_one i j
  rw [hc]
  unfold allowed slashHit
  constructor
  · rintro ⟨h, h' | h'⟩
    · exact ⟨h, Or.inr h'⟩
    · rw [sub_ofNat h] at h'; exact ⟨h, Or.inl h'⟩
  · rintro ⟨h, h' | h'⟩
    · rw [← sub_ofNat h] at h'; exact ⟨h, Or.inr h'⟩
    · exact ⟨h, Or.inl h'⟩

theorem neg_inf : Ideal.ofBits .f32 0xFF800000#32 = (⊥ : EReal) := by
  simp [Ideal.ofBits, Ideal.ieee]

/-- The masked scores. -/
theorem masked_scores (R : Reads A x1 x3 x5 x6 x7 r0 r1 r2 e0) (b : Fin 2) (g : Fin 6) (a : Fin 5) (i j : Fin 768) :
    val_main_v48 (F := Ideal) x1 x3 x6 x7 r0 r1 e0 (ix5 b g a i j) = masked (allowed A b (hd g a) i.val) (nat (score A b (hd g a) i)) j.val := by
  have h := allowed_bit R b g a i j
  rw [val_main_v48_apply, scores R]
  unfold Scalar.select masked
  by_cases hal : allowed A b (hd g a) i.val j.val
  · rw [if_pos hal, nat_val]
    exact if_pos (h.mpr hal)
  · rw [if_neg hal]
    have h0 : ¬ val_main_v47 (F := Ideal) x6 x7 (ix5 b g a i j) = 1#1 := fun e => hal (h.mp e)
    exact (if_neg h0).trans neg_inf

instance : Std.Commutative (FloatOps.maximumf (F := Ideal) (φ := .f32)) := ⟨fun a b => max_comm (α := EReal) a b⟩
instance : Std.Associative (FloatOps.maximumf (F := Ideal) (φ := .f32)) := ⟨fun a b c => max_assoc (α := EReal) a b c⟩

/-- A fold of maxima from negative infinity. -/
theorem max_fold {ι : Type} {n : ℕ} (g : ι → EReal) (l : Fin n → ι) (g' : Fin n → EReal) (z : EReal) (hz : z = ⊥) (e : ∀ k, g (l k) = g' k) :
    Finset.univ.fold (FloatOps.maximumf (F := Ideal) (φ := .f32)) z (g ∘ l) = Finset.univ.fold max ⊥ g' := by
  subst hz
  rw [show g ∘ l = g' from funext e]
  rfl

/-- A row's largest masked score. -/
theorem tops (R : Reads A x1 x3 x5 x6 x7 r0 r1 r2 e0) (b : Fin 2) (g : Fin 6) (a : Fin 5) (i : Fin 768) :
    val_main_v49 (F := Ideal) x1 x3 x6 x7 r0 r1 e0 (ix4 b g a i) = top 768 (allowed A b (hd g a) i.val) (nat (score A b (hd g a) i)) := by
  unfold val_main_v49
  have hz : val_main_cst_4 (F := Ideal) (Shape.Idx.first h_S_) = (⊥ : EReal) := neg_inf
  have e : ∀ k : Fin 768, val_main_v48 (F := Ideal) x1 x3 x6 x7 r0 r1 e0 (red49.lift (ix4 b g a i) k) = masked (allowed A b (hd g a) i.val) (nat (score A b (hd g a) i)) k.val :=
    fun k => (congrArg (val_main_v48 (F := Ideal) x1 x3 x6 x7 r0 r1 e0) (lift49 b g a i k)).trans (masked_scores R b g a i k)
  unfold top
  generalize val_main_v48 (F := Ideal) x1 x3 x6 x7 r0 r1 e0 = w at e ⊢
  generalize val_main_cst_4 (F := Ideal) = z at hz ⊢
  exact (Host.reduce_eq_fold_single FloatOps.maximumf _ _ _ red49 _ _).trans (max_fold _ _ _ _ hz e)

/-- The exponentials. -/
theorem expos (R : Reads A x1 x3 x5 x6 x7 r0 r1 r2 e0) (b : Fin 2) (g : Fin 6) (a : Fin 5) (i j : Fin 768) :
    val_main_v53 (F := Ideal) x1 x3 x6 x7 r0 r1 e0 (ix5 b g a i j) = expo 768 (allowed A b (hd g a) i.val) (nat (score A b (hd g a) i)) j.val := by
  rw [val_main_v53_apply, val_main_v52_apply, masked_scores R, val_main_v51_apply, val_main_v50_apply]
  rw [show idx_main_v50 (idx_main_v51 (ix5 b g a i j)) = ix4 b g a i from by
    funext x; match x with | ⟨0, _⟩ => rfl | ⟨1, _⟩ => rfl | ⟨2, _⟩ => rfl | ⟨3, _⟩ => rfl]
  rw [tops R]
  rfl

/-- A row's sum of exponentials. -/
theorem totals (R : Reads A x1 x3 x5 x6 x7 r0 r1 r2 e0) (b : Fin 2) (g : Fin 6) (a : Fin 5) (i : Fin 768) :
    val_main_v54 (F := Ideal) x1 x3 x6 x7 r0 r1 e0 (ix4 b g a i) = ∑ k : Fin 768, expo 768 (allowed A b (hd g a) i.val) (nat (score A b (hd g a) i)) k.val := by
  rw [val_main_v54_apply, show val_main_cst_5 (F := Ideal) (Shape.Idx.first h_S_) = (0 : EReal) from Ideal.ofBits_zero_f32, zero_add]
  refine Finset.sum_congr rfl fun k _ => ?_
  rw [show idx_main_v54 (ix4 b g a i) k = ix5 b g a i k from by
    funext x; match x with | ⟨0, _⟩ => rfl | ⟨1, _⟩ => rfl | ⟨2, _⟩ => rfl | ⟨3, _⟩ => rfl | ⟨4, _⟩ => rfl]
  exact expos R b g a i k

/-- The weights: each exponential over its row's sum, zero where the sum is zero. -/
theorem weights (R : Reads A x1 x3 x5 x6 x7 r0 r1 r2 e0) (b : Fin 2) (g : Fin 6) (a : Fin 5) (i j : Fin 768) :
    val_main_v60 (F := Ideal) x1 x3 x6 x7 r0 r1 e0 (ix5 b g a i j)
      = if 0 < ∑ k : Fin 768, expo 768 (allowed A b (hd g a) i.val) (nat (score A b (hd g a) i)) k.val then
          Ideal.div (expo 768 (allowed A b (hd g a) i.val) (nat (score A b (hd g a) i)) j.val) (∑ k : Fin 768, expo 768 (allowed A b (hd g a) i.val) (nat (score A b (hd g a) i)) k.val)
        else 0 := by
  have e : idx_main_v55 (idx_main_v58 (ix5 b g a i j)) = ix4 b g a i := by
    funext x; match x with | ⟨0, _⟩ => rfl | ⟨1, _⟩ => rfl | ⟨2, _⟩ => rfl | ⟨3, _⟩ => rfl
  have e' : idx_main_v55 (idx_main_call1_v1 (ix5 b g a i j)) = ix4 b g a i := by
    funext x; match x with | ⟨0, _⟩ => rfl | ⟨1, _⟩ => rfl | ⟨2, _⟩ => rfl | ⟨3, _⟩ => rfl
  rw [val_main_v60_apply, val_main_call1_v1_apply, val_main_v57_apply, val_main_v55_apply, e', totals R, val_main_v59_apply, expos R, val_main_v58_apply, val_main_v55_apply, e, totals R,
    val_main_v56_apply, val_main_cst_6_apply, val_main_call1_v2_apply]
  generalize (∑ k : Fin 768, expo 768 (allowed A b (hd g a) i.val) (nat (score A b (hd g a) i)) k.val) = T
  generalize expo 768 (allowed A b (hd g a) i.val) (nat (score A b (hd g a) i)) j.val = E
  rw [show (FloatOps.ofBits .f32 0x00000000#32 : Ideal .f32) = (0 : EReal) from Ideal.ofBits_zero_f32,
    show val_main_call1_v0 (F := Ideal) (idx_main_call1_v2 (ix5 b g a i j)) = (0 : EReal) from Ideal.ofBits_zero_f32]
  unfold Scalar.select
  by_cases hT : (0 : EReal) < T
  · rw [if_pos hT]
    rw [show FloatOps.cmpf (F := Ideal) (φ := .f32) .ogt T (0 : EReal) = 1#1 from by
      show BitVec.ofBool (decide (T > (0 : EReal))) = 1#1
      simp [hT]]
    rfl
  · rw [if_neg hT]
    rw [show FloatOps.cmpf (F := Ideal) (φ := .f32) .ogt T (0 : EReal) = 0#1 from by
      show BitVec.ofBool (decide (T > (0 : EReal))) = 0#1
      simp [hT]]
    rfl

/-- The result at a head and a coordinate. -/
theorem heads (R : Reads A x1 x3 x5 x6 x7 r0 r1 r2 e0) (b : Fin 2) (g : Fin 6) (d : Fin 96) (a : Fin 5) (i : Fin 768) :
    val_main_v64 (F := Ideal) x1 x3 x5 x6 x7 r0 r1 r2 e0 (ix5 b g d a i) = out A b i (hd g a) d := by
  rw [val_main_v64_apply]
  unfold out row
  refine Finset.sum_congr rfl fun j _ => ?_
  rw [R.v, val_main_v63_apply]
  rw [show ridx_main_v64 (ix5 b g d a i) j = ix5 b g a i j from by
    funext x; match x with | ⟨0, _⟩ => rfl | ⟨1, _⟩ => rfl | ⟨2, _⟩ => rfl | ⟨3, _⟩ => rfl | ⟨4, _⟩ => rfl]
  rw [val_main_v62_apply, weights R, val_main_v61_apply, val_main_v12_apply, val_main_v11_apply, R.vs, nat_val, nat_val, group_hd]
  exact @mul_comm EReal _ _ _

/-- The reference's result: column `96 h + d` of row `i` is the result at query `i`, head `h`, coordinate `d`. -/
theorem result (R : Reads A x1 x3 x5 x6 x7 r0 r1 r2 e0) (y : S2x768x2880.Idx) :
    val_main_v67 (F := Ideal) x1 x3 x5 x6 x7 r0 r1 r2 e0 y
      = out A (y 0) (y 1) ⟨(y 2).val / 96, by have h : (y 2).val < 2880 := (y 2).isLt; omega⟩ ⟨(y 2).val % 96, Nat.mod_lt _ (by decide)⟩ := by
  have h0 : (y 0).val < 2 := (y 0).isLt
  have h1 : (y 1).val < 768 := (y 1).isLt
  have h2 : (y 2).val < 2880 := (y 2).isLt
  rw [val_main_v67_apply, val_main_v66_apply, val_main_v65_apply]
  have e : idx_main_v65 (idx_main_v66 y) = ix5 (y 0) (⟨(y 2).val / 480, by omega⟩ : Fin 6) (⟨(y 2).val % 96, by omega⟩ : Fin 96) (⟨(y 2).val / 96 % 5, by omega⟩ : Fin 5) (y 1) := by
    funext x
    match x with
    | ⟨0, _⟩ => exact Fin.ext (show (((y 0).val * 768 + (y 1).val) * 2880 + (y 2).val) / 2211840 = (y 0).val by omega)
    | ⟨1, _⟩ => exact Fin.ext (show (((y 0).val * 768 + (y 1).val) * 2880 + (y 2).val) / 480 % 6 = (y 2).val / 480 by omega)
    | ⟨2, _⟩ => exact Fin.ext (show (((y 0).val * 768 + (y 1).val) * 2880 + (y 2).val) % 96 = (y 2).val % 96 by omega)
    | ⟨3, _⟩ => exact Fin.ext (show (((y 0).val * 768 + (y 1).val) * 2880 + (y 2).val) / 96 % 5 = (y 2).val / 96 % 5 by omega)
    | ⟨4, _⟩ => exact Fin.ext (show (((y 0).val * 768 + (y 1).val) * 2880 + (y 2).val) / 2880 % 768 = (y 1).val by omega)
  rw [e]
  refine (heads R (y 0) _ _ _ (y 1)).trans ?_
  congr 1
  exact Fin.ext (by show 5 * ((y 2).val / 480) + (y 2).val / 96 % 5 = (y 2).val / 96; omega)

end Stages

end Cert.ReferenceIdeal.RefValue

end
-- ==== Proof.Equation.lean ====
/- The reference's run: what its widening kernel leaves, its scale, and that its result is the kernel's. -/
module

public import proofs.«01_k».proof.Proof.RefValue
public import proofs.«01_k».proof.Proof.Exact
public import proofs.«01_k».proof.Proof.Gen.ReferenceIdeal.Run
public import Idealize.ShloMosaic.Lib.Pipeline.ValueKit

@[expose] public section

set_option maxRecDepth 16384

noncomputable section

namespace Cert.ReferenceIdeal.Equation

open Cert.ReferenceIdeal Cert.ReferenceIdeal.Gen Cert.ReferenceIdeal.Read
open Idealize.ShloMosaic Idealize.ShloMosaic.TcCoe Idealize.SL.Sem Idealize.ShloMosaic.StableHlo
open Idealize.ShloMosaic.Tactic Idealize.ShloMosaic.ValueIdx
open Cert.Row Cert.Spec

variable (m : (ℓ : Loc nD τ sig) → Buf (Elt Ideal) ℓ) (c : Dev nD)

/-! ## The widening -/

/-- Every window's one block starts at the origin. -/
theorem idx : ∀ t : Fin cfg0.N, win0_0.index t = ![0, 0, 0, 0] ∧ win0_1.index t = ![0, 0, 0, 0] ∧ win0_2.index t = ![0, 0, 0, 0]
    ∧ win0_3.index t = ![0, 0, 0, 0] ∧ win0_4.index t = ![0, 0, 0, 0] ∧ win0_5.index t = ![0, 0, 0, 0] :=
  (by decide +kernel : ∀ t : Fin grid0.N, _)

/-- The first output of the widening kernel is the query codes. -/
theorem wide_q (j : S2x768x30x96.Idx) : (Value.reg_main_v2_0 m c : FVec Ideal S2x768x30x96 .f32) j
    = (m ((c : Thread nD τ).loc main_arg0) : FVec Ideal S2x768x30x96 .fp8e4m3) j := by
  refine congrFun ((dats m 0 c).arrAt_eq_of_after_last 3 t0_0 (by decide +kernel)
    (m ((c : Thread nD τ).loc main_arg0) : FVec Ideal S2x768x30x96 .fp8e4m3) fun j => ?_) j
  blk_simp
  rw [after0_3]
  frame_out
  blk_point [iblk, V, idx t0_0]

/-- The second output is the key codes. -/
theorem wide_k (j : S2x768x6x96.Idx) : (Value.reg_main_v2_1 m c : FVec Ideal S2x768x6x96 .f32) j
    = (m ((c : Thread nD τ).loc main_arg2) : FVec Ideal S2x768x6x96 .fp8e4m3) j := by
  refine congrFun ((dats m 0 c).arrAt_eq_of_after_last 4 t0_0 (by decide +kernel)
    (m ((c : Thread nD τ).loc main_arg2) : FVec Ideal S2x768x6x96 .fp8e4m3) fun j => ?_) j
  blk_simp
  rw [after0_4]
  frame_out
  blk_point [iblk, V, idx t0_0]

/-- The third output is the value codes. -/
theorem wide_v (j : S2x768x6x96.Idx) : (Value.reg_main_v2_2 m c : FVec Ideal S2x768x6x96 .bf16) j
    = (m ((c : Thread nD τ).loc main_arg4) : FVec Ideal S2x768x6x96 .fp8e4m3) j := by
  refine congrFun ((dats m 0 c).arrAt_eq_of_after_last 5 t0_0 (by decide +kernel)
    (m ((c : Thread nD τ).loc main_arg4) : FVec Ideal S2x768x6x96 .fp8e4m3) fun j => ?_) j
  blk_simp
  rw [after0_5]
  frame_out
  blk_point [iblk, V, idx t0_0]

/-! ## The scale -/

theorem bits_96 : Ideal.ofBits .f32 0x42C00000#32 = ((96 : ℝ) : EReal) := by
  simp [Ideal.ofBits, Ideal.ieee]
  rw [← EReal.coe_mul]
  norm_num

/-- The scale the reference computes is one over the square root of 96. -/
theorem scale (p : S_.Idx) : (Host.divf (constant S_ .f32 0x3F800000#32) (Host.sqrt (constant S_ .f32 0x42C00000#32)) : FVec Ideal S_ .f32) p = smScale := by
  show Ideal.div (Ideal.ofBits .f32 0x3F800000#32) (Ideal.sqrt (Ideal.ofBits .f32 0x42C00000#32)) = smScale
  rw [Ideal.ofBits_one_f32, bits_96, Ideal.sqrt_coe, if_neg (by norm_num),
    Ideal.div_coe (Real.sqrt_ne_zero'.mpr (by norm_num)), one_mul, one_div]
  rfl

/-! ## The equation -/

variable (mK : (ℓ : Loc Cert.KernelIdeal.nD Cert.KernelIdeal.τ Cert.KernelIdeal.sig) → Buf (Elt Ideal) ℓ)

/-- When the two programs' arguments agree, the reference's later operations read the kernel's arguments and the scale. -/
theorem reads (h0 : (m ((c : Thread nD τ).loc main_arg0) : FVec Ideal S2x768x30x96 .fp8e4m3) = (mK ((c : Thread Cert.KernelIdeal.nD Cert.KernelIdeal.τ).loc Cert.KernelIdeal.main_arg0) : FVec Ideal S2x768x30x96 .fp8e4m3))
    (h1 : (m ((c : Thread nD τ).loc main_arg1) : FVec Ideal S2x768x30 .f32) = (mK ((c : Thread Cert.KernelIdeal.nD Cert.KernelIdeal.τ).loc Cert.KernelIdeal.main_arg1) : FVec Ideal S2x768x30 .f32))
    (h2 : (m ((c : Thread nD τ).loc main_arg2) : FVec Ideal S2x768x6x96 .fp8e4m3) = (mK ((c : Thread Cert.KernelIdeal.nD Cert.KernelIdeal.τ).loc Cert.KernelIdeal.main_arg2) : FVec Ideal S2x768x6x96 .fp8e4m3))
    (h3 : (m ((c : Thread nD τ).loc main_arg3) : FVec Ideal S2x768x6 .f32) = (mK ((c : Thread Cert.KernelIdeal.nD Cert.KernelIdeal.τ).loc Cert.KernelIdeal.main_arg3) : FVec Ideal S2x768x6 .f32))
    (h4 : (m ((c : Thread nD τ).loc main_arg4) : FVec Ideal S2x768x6x96 .fp8e4m3) = (mK ((c : Thread Cert.KernelIdeal.nD Cert.KernelIdeal.τ).loc Cert.KernelIdeal.main_arg4) : FVec Ideal S2x768x6x96 .fp8e4m3))
    (h5 : (m ((c : Thread nD τ).loc main_arg5) : FVec Ideal S2x768x6 .f32) = (mK ((c : Thread Cert.KernelIdeal.nD Cert.KernelIdeal.τ).loc Cert.KernelIdeal.main_arg5) : FVec Ideal S2x768x6 .f32))
    (h6 : (m ((c : Thread nD τ).loc main_arg6) : IVec S2x30x112 32) = (mK ((c : Thread Cert.KernelIdeal.nD Cert.KernelIdeal.τ).loc Cert.KernelIdeal.main_arg6) : IVec S2x30x112 32))
    (h7 : (m ((c : Thread nD τ).loc main_arg7) : IVec S2x30x320 32) = (mK ((c : Thread Cert.KernelIdeal.nD Cert.KernelIdeal.τ).loc Cert.KernelIdeal.main_arg7) : IVec S2x30x320 32)) :
    RefValue.Reads (Cert.KernelIdeal.Blocks.argsOf mK c) (Value.exitV m c (Proc.devRef .tc main_arg1)) (Value.exitV m c (Proc.devRef .tc main_arg3)) (Value.exitV m c (Proc.devRef .tc main_arg5))
      (Value.exitV m c (Proc.devRef .tc main_arg6)) (Value.exitV m c (Proc.devRef .tc main_arg7)) (Value.exitV m c (Proc.devRef .tc main_v2_0))
      (Value.exitV m c (Proc.devRef .tc main_v2_1)) (Value.exitV m c (Proc.devRef .tc main_v2_2)) (Value.exitV m c (Proc.devRef .tc main_v1)) where
  q := fun p => (congrFun (Value.exit_main_v2_0 m c) p).trans ((wide_q m c p).trans ((congrFun h0 p).trans (congrArg _ (ValueIdx.eq_ix4 p))))
  qs := fun p => (congrFun (Value.exit_main_arg1 m c) p).trans ((congrFun h1 p).trans (congrArg _ (ValueIdx.eq_ix3 p)))
  k := fun p => (congrFun (Value.exit_main_v2_1 m c) p).trans ((wide_k m c p).trans ((congrFun h2 p).trans (congrArg _ (ValueIdx.eq_ix4 p))))
  ks := fun p => (congrFun (Value.exit_main_arg3 m c) p).trans ((congrFun h3 p).trans (congrArg _ (ValueIdx.eq_ix3 p)))
  v := fun p => (congrFun (Value.exit_main_v2_2 m c) p).trans ((wide_v m c p).trans ((congrFun h4 p).trans (congrArg _ (ValueIdx.eq_ix4 p))))
  vs := fun p => (congrFun (Value.exit_main_arg5 m c) p).trans ((congrFun h5 p).trans (congrArg _ (ValueIdx.eq_ix3 p)))
  vert := fun p => (congrFun (Value.exit_main_arg6 m c) p).trans ((congrFun h6 p).trans (congrArg _ (ValueIdx.eq_ix3 p)))
  slash := fun p => (congrFun (Value.exit_main_arg7 m c) p).trans ((congrFun h7 p).trans (congrArg _ (ValueIdx.eq_ix3 p)))
  scale := fun p => (congrFun (Value.exit_main_v1 m c) p).trans (scale p)

/-- When the two programs' arguments agree, the reference's result array is the one the kernel ends with. -/
theorem result_eq (h0 : (m ((c : Thread nD τ).loc main_arg0) : FVec Ideal S2x768x30x96 .fp8e4m3) = (mK ((c : Thread Cert.KernelIdeal.nD Cert.KernelIdeal.τ).loc Cert.KernelIdeal.main_arg0) : FVec Ideal S2x768x30x96 .fp8e4m3))
    (h1 : (m ((c : Thread nD τ).loc main_arg1) : FVec Ideal S2x768x30 .f32) = (mK ((c : Thread Cert.KernelIdeal.nD Cert.KernelIdeal.τ).loc Cert.KernelIdeal.main_arg1) : FVec Ideal S2x768x30 .f32))
    (h2 : (m ((c : Thread nD τ).loc main_arg2) : FVec Ideal S2x768x6x96 .fp8e4m3) = (mK ((c : Thread Cert.KernelIdeal.nD Cert.KernelIdeal.τ).loc Cert.KernelIdeal.main_arg2) : FVec Ideal S2x768x6x96 .fp8e4m3))
    (h3 : (m ((c : Thread nD τ).loc main_arg3) : FVec Ideal S2x768x6 .f32) = (mK ((c : Thread Cert.KernelIdeal.nD Cert.KernelIdeal.τ).loc Cert.KernelIdeal.main_arg3) : FVec Ideal S2x768x6 .f32))
    (h4 : (m ((c : Thread nD τ).loc main_arg4) : FVec Ideal S2x768x6x96 .fp8e4m3) = (mK ((c : Thread Cert.KernelIdeal.nD Cert.KernelIdeal.τ).loc Cert.KernelIdeal.main_arg4) : FVec Ideal S2x768x6x96 .fp8e4m3))
    (h5 : (m ((c : Thread nD τ).loc main_arg5) : FVec Ideal S2x768x6 .f32) = (mK ((c : Thread Cert.KernelIdeal.nD Cert.KernelIdeal.τ).loc Cert.KernelIdeal.main_arg5) : FVec Ideal S2x768x6 .f32))
    (h6 : (m ((c : Thread nD τ).loc main_arg6) : IVec S2x30x112 32) = (mK ((c : Thread Cert.KernelIdeal.nD Cert.KernelIdeal.τ).loc Cert.KernelIdeal.main_arg6) : IVec S2x30x112 32))
    (h7 : (m ((c : Thread nD τ).loc main_arg7) : IVec S2x30x320 32) = (mK ((c : Thread Cert.KernelIdeal.nD Cert.KernelIdeal.τ).loc Cert.KernelIdeal.main_arg7) : IVec S2x30x320 32)) :
    val_main_v67 (F := Ideal) (Value.exitV m c (Proc.devRef .tc main_arg1)) (Value.exitV m c (Proc.devRef .tc main_arg3)) (Value.exitV m c (Proc.devRef .tc main_arg5))
      (Value.exitV m c (Proc.devRef .tc main_arg6)) (Value.exitV m c (Proc.devRef .tc main_arg7)) (Value.exitV m c (Proc.devRef .tc main_v2_0))
      (Value.exitV m c (Proc.devRef .tc main_v2_1)) (Value.exitV m c (Proc.devRef .tc main_v2_2)) (Value.exitV m c (Proc.devRef .tc main_v1))
      = Cert.KernelIdeal.Exact.target (Cert.KernelIdeal.Blocks.argsOf mK c) :=
  funext fun y => RefValue.result (reads m c mK h0 h1 h2 h3 h4 h5 h6 h7) y

end Cert.ReferenceIdeal.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.KernelFrame
public import proofs.«01_k».proof.Proof.KernelIdealFrame
public import proofs.«01_k».proof.Proof.Exact
public import proofs.«01_k».proof.Proof.RefValue
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Over the extended reals, from memories that agree on the arguments, the kernel and the reference end with the same
    result, and both leave their arguments unchanged. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => Cert.KernelIdeal.Exact.target (Cert.KernelIdeal.Blocks.argsOf m c), Cert.KernelIdeal.Exact.run m g, ?_⟩
  refine (θ_run _ _ _).mono (fun r h c => ?_) (Cert.ReferenceIdeal.Value.run (F := Ideal) m' g')
  obtain ⟨h0, h1, h2, h3, h4, h5, h6, h7⟩ := hag c
  exact ⟨(h c).1.trans ((Cert.ReferenceIdeal.Read.val_main_v67_eq (F := Ideal) (Cert.ReferenceIdeal.Value.exitV m' c)).trans
    (Cert.ReferenceIdeal.Equation.result_eq m' c m h0 h1 h2 h3 h4 h5 h6 h7)), (h c).2⟩

/-- The five claims. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ,
  IdealRules.named_const.statement Cert.KernelIdeal.κ "scale_log2e" .f32 0x3E16C740#32 (((Real.sqrt 96)⁻¹ * (Real.log 2)⁻¹ : ℝ) : EReal) rfl,
  algebraic⟩

end Cert.Proof

end
